-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S1024x1024 : Shape := ⟨2, ![1024, 1024]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S1024x1024 .f32) (main_arg1 : FVec F S1024x1024 .f32) (main_arg2 : FVec F S4096x1024 .f32) (main_arg3 : FVec F S4096x1024 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S1024x1024 : Shape := ⟨2, ![1024, 1024]⟩
abbrev S4x256x1024 : Shape := ⟨3, ![4, 256, 1024]⟩
abbrev S4x256x1152 : Shape := ⟨3, ![4, 256, 1152]⟩
abbrev S3x128x1152 : Shape := ⟨3, ![3, 128, 1152]⟩
abbrev S4x3 : Shape := ⟨2, ![4, 3]⟩
abbrev S2x6 : Shape := ⟨2, ![2, 6]⟩
abbrev S_ : Shape := ⟨0, ![]⟩
abbrev S64x1024 : Shape := ⟨2, ![64, 1024]⟩
abbrev S1x64x1024 : Shape := ⟨3, ![1, 64, 1024]⟩
abbrev S128x1024 : Shape := ⟨2, ![128, 1024]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x128 : Shape := ⟨3, ![1, 128, 128]⟩
abbrev S128 : Shape := ⟨1, ![128]⟩
abbrev S128x1 : Shape := ⟨2, ![128, 1]⟩
abbrev S1x128x1 : Shape := ⟨3, ![1, 128, 1]⟩
abbrev S1x1 : Shape := ⟨2, ![1, 1]⟩
abbrev S1x128x1152 : Shape := ⟨3, ![1, 128, 1152]⟩
abbrev S128x1152 : Shape := ⟨2, ![128, 1152]⟩
abbrev S1x128x1024 : Shape := ⟨3, ![1, 128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S4x256x1024, .f32⟩
  | .local _ .vmem, ⟨8, _⟩ => ⟨S4x256x1024, .f32⟩
  | .local _ .vmem, ⟨9, _⟩ => ⟨S4x256x1152, .bf16⟩
  | .local _ .vmem, ⟨10, _⟩ => ⟨S3x128x1152, .bf16⟩
  | .local _ .vmem, ⟨11, _⟩ => ⟨S3x128x1152, .bf16⟩
  | .local _ .vmem, ⟨12, _⟩ => ⟨S4x256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_73 : BitVec 32) (c3_i32 : BitVec 32) : Fin 2 → Nat :=
  let c64_i32 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : BitVec 32 := Scalar.addi v2 c3_i32
  let c4_i32_67 : BitVec 32 := 4#32
  let c0_i32_68 : BitVec 32 := 0#32
  let v111 : BitVec 1 := Scalar.cmpi .eq c4_i32_67 c0_i32_68
  let c1_i32_69 : BitVec 32 := 1#32
  let v112 : BitVec 32 := Scalar.select v111 c1_i32_69 c4_i32_67
  let v113 : BitVec 32 := Scalar.remsi v110 v112
  let c0_i32_71 : BitVec 32 := 0#32
  let v115 : BitVec 1 := Scalar.cmpi .slt v113 c0_i32_71
  let c0_i32_72 : BitVec 32 := 0#32
  let v116 : BitVec 1 := Scalar.cmpi .slt v112 c0_i32_72
  let v117 : BitVec 1 := Scalar.xori v115 v116
  let c0_i32_70 : BitVec 32 := 0#32
  let v114 : BitVec 1 := Scalar.cmpi .ne v113 c0_i32_70
  let v118 : BitVec 1 := Scalar.andi v117 v114
  let v119 : BitVec 32 := Scalar.addi v113 v112
  let v120 : BitVec 32 := Scalar.select v118 v119 v113
  let v121 : BitVec 32 := Scalar.muli c64_i32 v120
  let v122 : BitVec 32 := Scalar.addi c0_i32_73 v121
  let v123 : Index := Scalar.indexCast v122
  let c0_74 : Index := 0#32
  ![v123.toNat, 0]
def k0_off2 (d0 : Dev nD) (c3_i32_108 : BitVec 32) (c0_i32_116 : BitVec 32) : Fin 2 → Nat :=
  let c256_i32_115 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v177 : BitVec 32 := Scalar.addi v2 c3_i32_108
  let c4_i32_109 : BitVec 32 := 4#32
  let c0_i32_110 : BitVec 32 := 0#32
  let v178 : BitVec 1 := Scalar.cmpi .eq c4_i32_109 c0_i32_110
  let c1_i32_111 : BitVec 32 := 1#32
  let v179 : BitVec 32 := Scalar.select v178 c1_i32_111 c4_i32_109
  let v180 : BitVec 32 := Scalar.remsi v177 v179
  let c0_i32_113 : BitVec 32 := 0#32
  let v182 : BitVec 1 := Scalar.cmpi .slt v180 c0_i32_113
  let c0_i32_114 : BitVec 32 := 0#32
  let v183 : BitVec 1 := Scalar.cmpi .slt v179 c0_i32_114
  let v184 : BitVec 1 := Scalar.xori v182 v183
  let c0_i32_112 : BitVec 32 := 0#32
  let v181 : BitVec 1 := Scalar.cmpi .ne v180 c0_i32_112
  let v185 : BitVec 1 := Scalar.andi v184 v181
  let v186 : BitVec 32 := Scalar.addi v180 v179
  let v187 : BitVec 32 := Scalar.select v185 v186 v180
  let v188 : BitVec 32 := Scalar.muli c256_i32_115 v187
  let v189 : BitVec 32 := Scalar.addi v188 c0_i32_116
  let v190 : Index := Scalar.indexCast v189
  let c0_117 : Index := 0#32
  ![v190.toNat, 0]
def k0_dev3 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_246 : BitVec 32 := 1#32
  let v355 : BitVec 32 := Scalar.muli v24 c1_i32_246
  let v356 : BitVec 32 := Scalar.addi c0_i32_247 v355
  v356.toNat
def k0_dev4 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_444 : BitVec 32 := 1#32
  let v610 : BitVec 32 := Scalar.muli v13 c1_i32_444
  let v611 : BitVec 32 := Scalar.addi c0_i32_445 v610
  v611.toNat
def k0_dev5 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_805 : BitVec 32 := 1#32
  let v1059 : BitVec 32 := Scalar.muli v24 c1_i32_805
  let v1060 : BitVec 32 := Scalar.addi c0_i32_806 v1059
  v1060.toNat
def k0_dev6 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_838 : BitVec 32 := 1#32
  let v1085 : BitVec 32 := Scalar.muli v13 c1_i32_838
  let v1086 : BitVec 32 := Scalar.addi c0_i32_839 v1085
  v1086.toNat
def k0_dev7 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1153 : BitVec 32 := 1#32
  let v1467 : BitVec 32 := Scalar.muli v24 c1_i32_1153
  let v1468 : BitVec 32 := Scalar.addi c0_i32_1154 v1467
  v1468.toNat
def k0_dev8 (d0 : Dev nD) : Nat :=
  let c0_i32_1187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1186 : BitVec 32 := 1#32
  let v1493 : BitVec 32 := Scalar.muli v13 c1_i32_1186
  let v1494 : BitVec 32 := Scalar.addi c0_i32_1187 v1493
  v1494.toNat
def k0_dev9 (d0 : Dev nD) : Nat :=
  let c0_i32_1606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1605 : BitVec 32 := 1#32
  let v2041 : BitVec 32 := Scalar.muli v24 c1_i32_1605
  let v2042 : BitVec 32 := Scalar.addi c0_i32_1606 v2041
  v2042.toNat
def k0_dev10 (d0 : Dev nD) : Nat :=
  let c0_i32_1618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1617 : BitVec 32 := 1#32
  let v2051 : BitVec 32 := Scalar.muli v13 c1_i32_1617
  let v2052 : BitVec 32 := Scalar.addi c0_i32_1618 v2051
  v2052.toNat
def k0_dev11 (d0 : Dev nD) : Nat :=
  let c0_i32_1666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1665 : BitVec 32 := 1#32
  let v2144 : BitVec 32 := Scalar.muli v24 c1_i32_1665
  let v2145 : BitVec 32 := Scalar.addi c0_i32_1666 v2144
  v2145.toNat
def k0_dev12 (d0 : Dev nD) : Nat :=
  let c0_i32_1678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1677 : BitVec 32 := 1#32
  let v2154 : BitVec 32 := Scalar.muli v13 c1_i32_1677
  let v2155 : BitVec 32 := Scalar.addi c0_i32_1678 v2154
  v2155.toNat
def k0_dev13 (d0 : Dev nD) : Nat :=
  let c0_i32_1745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1744 : BitVec 32 := 1#32
  let v2219 : BitVec 32 := Scalar.muli v13 c1_i32_1744
  let v2220 : BitVec 32 := Scalar.addi c0_i32_1745 v2219
  v2220.toNat
def k0_dev14 (d0 : Dev nD) : Nat :=
  let c0_i32_1780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1779 : BitVec 32 := 1#32
  let v2245 : BitVec 32 := Scalar.muli v24 c1_i32_1779
  let v2246 : BitVec 32 := Scalar.addi c0_i32_1780 v2245
  v2246.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S4096x1024 : Shape := ⟨2, ![4096, 1024]⟩
abbrev S1x4096x8x128 : Shape := ⟨4, ![1, 4096, 8, 128]⟩
abbrev S1x1024x1024 : Shape := ⟨3, ![1, 1024, 1024]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 141
  | .vmem => 0
  | .smem => 0
  | _ => 0

abbrev hbmTy0_0 (i : Nat) : BufTy := match i % 128 with
  | 0 => ⟨S1024x1024, .f32⟩
  | 1 => ⟨S1024x1024, .f32⟩
  | 2 => ⟨S4096x1024, .f32⟩
  | 3 => ⟨S4096x1024, .f32⟩
  | 4 => ⟨S1024x1024, .f32⟩
  | 5 => ⟨S1x4096x8x128, .f32⟩
  | 6 => ⟨S1x4096x8x128, .f32⟩
  | 7 => ⟨S1x1024x1024, .f32⟩
  | 8 => ⟨S1x1024x1024, .f32⟩
  | 9 => ⟨S1x1024x8x128, .f32⟩
  | 10 => ⟨S1024, .i32⟩
  | 11 => ⟨S_, .i32⟩
  | 12 => ⟨S_, .i32⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S1024, .i32⟩
  | 20 => ⟨S1024, .i32⟩
  | 21 => ⟨S_, .i32⟩
  | 22 => ⟨S1024, .i32⟩
  | 23 => ⟨S1024, .i1⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S4096, .i32⟩
  | 31 => ⟨S_, .i32⟩
  | 32 => ⟨S_, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i1⟩
  | 39 => ⟨S4096, .i32⟩
  | 40 => ⟨S4096, .i32⟩
  | 41 => ⟨S_, .i32⟩
  | 42 => ⟨S4096, .i32⟩
  | 43 => ⟨S4096, .i1⟩
  | 44 => ⟨S4096, .i1⟩
  | 45 => ⟨S_, .i32⟩
  | 46 => ⟨S4096, .i32⟩
  | 47 => ⟨S4096, .i32⟩
  | 48 => ⟨S4096, .i32⟩
  | 49 => ⟨S1x4096, .i32⟩
  | 50 => ⟨S1024x4096, .i32⟩
  | 51 => ⟨S1024x4096, .i32⟩
  | 52 => ⟨S1024x4096, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x4096, .i32⟩
  | 60 => ⟨S1x4096, .i32⟩
  | 61 => ⟨S_, .i32⟩
  | 62 => ⟨S1x4096, .i32⟩
  | 63 => ⟨S1x4096, .i1⟩
  | 64 => ⟨S_, .i32⟩
  | 65 => ⟨S1x4096, .i32⟩
  | 66 => ⟨S1x4096, .i1⟩
  | 67 => ⟨S_, .i32⟩
  | 68 => ⟨S_, .i1⟩
  | 69 => ⟨S1x4096, .i1⟩
  | 70 => ⟨S1x4096, .i1⟩
  | 71 => ⟨S1x4096, .i1⟩
  | 72 => ⟨S1x4096, .i32⟩
  | 73 => ⟨S1x4096, .i32⟩
  | 74 => ⟨S1x4096, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S1024x1, .i32⟩
  | 82 => ⟨S1024x1, .i32⟩
  | 83 => ⟨S_, .i32⟩
  | 84 => ⟨S1024x1, .i32⟩
  | 85 => ⟨S1024x1, .i1⟩
  | 86 => ⟨S_, .i32⟩
  | 87 => ⟨S1024x1, .i32⟩
  | 88 => ⟨S1024x1, .i1⟩
  | 89 => ⟨S_, .i32⟩
  | 90 => ⟨S_, .i1⟩
  | 91 => ⟨S1024x1, .i1⟩
  | 92 => ⟨S1024x1, .i1⟩
  | 93 => ⟨S1024x1, .i1⟩
  | 94 => ⟨S1024x1, .i32⟩
  | 95 => ⟨S1024x1, .i32⟩
  | 96 => ⟨S1024x1, .i32⟩
  | 97 => ⟨S1024x4096, .i32⟩
  | 98 => ⟨S1024x4096, .i32⟩
  | 99 => ⟨S1024x4096, .i1⟩
  | 100 => ⟨S1024x4096, .i1⟩
  | 101 => ⟨S1x8x1024x4096, .f32⟩
  | 102 => ⟨S_, .f32⟩
  | 103 => ⟨S1x8x1024x4096, .f32⟩
  | 104 => ⟨S1x8x1024x4096, .f32⟩
  | 105 => ⟨S1x1x1024x4096, .i1⟩
  | 106 => ⟨S_, .f32⟩
  | 107 => ⟨S_, .f32⟩
  | 108 => ⟨S1x8x1024x4096, .i1⟩
  | 109 => ⟨S1x8x1024x4096, .f32⟩
  | 110 => ⟨S1x8x1024x4096, .f32⟩
  | 111 => ⟨S_, .f32⟩
  | 112 => ⟨S1x8x1024, .f32⟩
  | 113 => ⟨S1x8x1024x1, .f32⟩
  | 114 => ⟨S1x8x1024x4096, .f32⟩
  | 115 => ⟨S1x8x1024x4096, .f32⟩
  | 116 => ⟨S1x8x1024x4096, .f32⟩
  | 117 => ⟨S_, .i1⟩
  | 118 => ⟨S1024, .i1⟩
  | 119 => ⟨S1x1x1024x1, .i1⟩
  | 120 => ⟨S_, .f32⟩
  | 121 => ⟨S1x8x1024, .f32⟩
  | 122 => ⟨S1x8x1024x1, .f32⟩
  | 123 => ⟨S_, .f32⟩
  | 124 => ⟨S_, .f32⟩
  | 125 => ⟨S1x8x1024x1, .i1⟩
  | 126 => ⟨S1x8x1024x1, .f32⟩
  | 127 => ⟨S1x8x1024x1, .f32⟩
  | _ => ⟨S1024x1024, .f32⟩

abbrev hbmTy0_1 (i : Nat) : BufTy := match i % 128 with
  | 0 => ⟨S1x8x1024x4096, .f32⟩
  | 1 => ⟨S1x8x1024x4096, .f32⟩
  | 2 => ⟨S1x1x1024x1, .i1⟩
  | 3 => ⟨S_, .f32⟩
  | 4 => ⟨S_, .f32⟩
  | 5 => ⟨S1x8x1024x4096, .i1⟩
  | 6 => ⟨S1x8x1024x4096, .f32⟩
  | 7 => ⟨S1x8x1024x4096, .f32⟩
  | 8 => ⟨S1x8x128x1024, .f32⟩
  | 9 => ⟨S1x1024x8x128, .f32⟩
  | 10 => ⟨S1x1024x1024, .f32⟩
  | 11 => ⟨S1x1024x1024, .f32⟩
  | 12 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v14 : Ref sig .tc := ⟨.hbm, 74, rfl⟩
abbrev main_c_2 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩

abbrev nD : Nat := 1
abbrev τ : Topo := Topo.v7x

variable {F : FTy → Type} [FloatOps F]
-- ==== Proof.KernelIdeal.Body.lean ====
/-
The kernel's body, written once more as a composition of a few repeated pieces: the copy of one block of rows, one head of
one attention piece, one addition to a received partial sum, one head of the normalisation, one projected half, one
block of the output. `cc0_body_eq` says that the printed body is this composition, by unfolding alone.
-/
module

public import proofs.«01_k».proof.Proof.Gen.KernelIdeal
public import proofs.«01_k».proof.Proof.Gen.KernelIdeal.Points
public import Idealize.ShloMosaic.Lib.Pipeline.Regions

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .vmem S1024x1024 .f32 := Memref.whole cc0_stg0_0
abbrev wqM : Memref sig .tc .vmem S1024x1024 .f32 := Memref.whole cc0_stg1_0
abbrev kM : Memref sig .tc .vmem S1024x1024 .f32 := Memref.whole cc0_stg2_0
abbrev vM : Memref sig .tc .vmem S1024x1024 .f32 := Memref.whole cc0_stg3_0
abbrev woM : Memref sig .tc .vmem S1024x1024 .f32 := Memref.whole cc0_stg4_0
abbrev outM : Memref sig .tc .vmem S1024x1024 .f32 := Memref.whole cc0_stg5_0
abbrev xpM : Memref sig .tc .vmem S1024x1024 .f32 := Memref.whole cc0_scratch0
abbrev krM : Memref sig .tc .vmem S4x256x1024 .f32 := Memref.whole cc0_scratch1
abbrev vrM : Memref sig .tc .vmem S4x256x1024 .f32 := Memref.whole cc0_scratch2
abbrev partM : Memref sig .tc .vmem S4x256x1152 .bf16 := Memref.whole cc0_scratch3
abbrev rsrM : Memref sig .tc .vmem S3x128x1152 .bf16 := Memref.whole cc0_scratch4
abbrev rslM : Memref sig .tc .vmem S3x128x1152 .bf16 := Memref.whole cc0_scratch5
abbrev ogM : Memref sig .tc .vmem S4x256x1024 .bf16 := Memref.whole cc0_scratch6

/-! ## The rectangles, their bounds and their alignment -/

theorem inb_x (a b : Fin 4) : ∀ i, (![256 * a.val + 64 * b.val, 0] : Fin 2 → ℕ) i + S64x1024.size i ≤ S1024x1024.size i := by
  revert a b; decide
theorem inb_kv (k u : Fin 4) : ∀ i, (![k.val, 64 * u.val, 0] : Fin 3 → ℕ) i + S1x64x1024.size i ≤ S4x256x1024.size i := by
  revert k u; decide
theorem inb_kvh (k : Fin 4) (h : Fin 8) : ∀ i, (![k.val, 0, 128 * h.val] : Fin 3 → ℕ) i + S1x256x128.size i ≤ S4x256x1024.size i := by
  revert k h; decide
theorem inb_pc (k : Fin 4) (b : Fin 2) (h : Fin 8) :
    ∀ i, (![k.val, 128 * b.val, 128 * h.val] : Fin 3 → ℕ) i + S1x128x128.size i ≤ S4x256x1152.size i := by
  revert k b h; decide
theorem inb_pl (k : Fin 4) (b : Fin 2) (h : Fin 8) :
    ∀ i, (![k.val, 128 * b.val, 1024 + h.val] : Fin 3 → ℕ) i + S1x128x1.size i ≤ S4x256x1152.size i := by
  revert k b h; decide
theorem inb_ph (k : Fin 4) (b : Fin 2) :
    ∀ i, (![k.val, 128 * b.val, 0] : Fin 3 → ℕ) i + S1x128x1152.size i ≤ S4x256x1152.size i := by
  revert k b; decide
theorem inb_r (t : Fin 3) : ∀ i, (![t.val, 0, 0] : Fin 3 → ℕ) i + S1x128x1152.size i ≤ S3x128x1152.size i := by
  revert t; decide
theorem inb_nh (b : Fin 2) (h : Fin 8) :
    ∀ i, (![0, 128 * b.val, 128 * h.val] : Fin 3 → ℕ) i + S1x128x128.size i ≤ S4x256x1024.size i := by
  revert b h; decide
theorem inb_g (k : Fin 4) (b : Fin 2) :
    ∀ i, (![k.val, 128 * b.val, 0] : Fin 3 → ℕ) i + S1x128x1024.size i ≤ S4x256x1024.size i := by
  revert k b; decide

abbrev rX (a b : Fin 4) : Rect S1024x1024 := Rect.unit (s := S1024x1024) ![256 * a.val + 64 * b.val, 0] S64x1024.size (inb_x a b)
abbrev rKV (k u : Fin 4) : Rect S4x256x1024 := Rect.unit (s := S4x256x1024) ![k.val, 64 * u.val, 0] S1x64x1024.size (inb_kv k u)
abbrev rKVh (k : Fin 4) (h : Fin 8) : Rect S4x256x1024 := Rect.unit (s := S4x256x1024) ![k.val, 0, 128 * h.val] S1x256x128.size (inb_kvh k h)
abbrev rPc (k : Fin 4) (b : Fin 2) (h : Fin 8) : Rect S4x256x1152 :=
  Rect.unit (s := S4x256x1152) ![k.val, 128 * b.val, 128 * h.val] S1x128x128.size (inb_pc k b h)
abbrev rPl (k : Fin 4) (b : Fin 2) (h : Fin 8) : Rect S4x256x1152 :=
  Rect.unit (s := S4x256x1152) ![k.val, 128 * b.val, 1024 + h.val] S1x128x1.size (inb_pl k b h)
abbrev rPh (k : Fin 4) (b : Fin 2) : Rect S4x256x1152 :=
  Rect.unit (s := S4x256x1152) ![k.val, 128 * b.val, 0] S1x128x1152.size (inb_ph k b)
abbrev rR (t : Fin 3) : Rect S3x128x1152 := Rect.unit (s := S3x128x1152) ![t.val, 0, 0] S1x128x1152.size (inb_r t)
abbrev rN (b : Fin 2) (h : Fin 8) : Rect S4x256x1024 :=
  Rect.unit (s := S4x256x1024) ![0, 128 * b.val, 128 * h.val] S1x128x128.size (inb_nh b h)
abbrev rG (k : Fin 4) (b : Fin 2) : Rect S4x256x1024 :=
  Rect.unit (s := S4x256x1024) ![k.val, 128 * b.val, 0] S1x128x1024.size (inb_g k b)
abbrev rFull : Rect S1024x1024 := Rect.unit (s := S1024x1024) ![0, 0] S1024x1024.size inb_S1024x1024_S1024x1024_0_0
/-- The rows `256 u + 64 ((c + k) mod 4) …` of a 1024-row array: key block, and output block, `u` of the chunk that slot `k` holds. -/
abbrev rC (c : Dev nD) (k u : Fin 4) : Rect S1024x1024 :=
  Rect.unit (s := S1024x1024) (k0_off1 c (BitVec.ofNat 32 (256 * u.val)) (BitVec.ofNat 32 k.val)) S64x1024.size (k0_off1_inb c u k)
/-- The rows of half `b` of chunk `(c + k) mod 4` in the permuted queries. -/
abbrev rQ (c : Dev nD) (k : Fin 4) (b : Fin 2) : Rect S1024x1024 :=
  Rect.unit (s := S1024x1024) (k0_off2 c (BitVec.ofNat 32 k.val) (BitVec.ofNat 32 (128 * b.val))) S128x1024.size (k0_off2_inb c k b)

theorem packed_pc (k : Fin 4) (b : Fin 2) (h : Fin 8) : (rPc k b h).PackedRows (EltTy.packing .bf16) := by revert k b h; decide
theorem packed_pl (k : Fin 4) (b : Fin 2) (h : Fin 8) : (rPl k b h).PackedRows (EltTy.packing .bf16) := by revert k b h; decide
theorem packed_r (t : Fin 3) : (rR t).PackedRows (EltTy.packing .bf16) := by revert t; decide
theorem packed_g (k : Fin 4) (b : Fin 2) : (rG k b).PackedRows (EltTy.packing .bf16) := by revert k b; decide
theorem words_ph (k : Fin 4) (b : Fin 2) : (rPh k b).WholeWords (EltTy.packing .bf16) := by revert k b; decide
theorem words_r (t : Fin 3) : (rR t).WholeWords (EltTy.packing .bf16) := by revert t; decide
theorem words_g (k : Fin 4) (b : Fin 2) : (rG k b).WholeWords (EltTy.packing .bf16) := by revert k b; decide

/-! ## The transfers' ends and semaphores -/

abbrev partH (k : Fin 4) (b : Fin 2) : Memref sig .tc .vmem S128x1152 .bf16 :=
  (partM.slice (rPh k b) (fun _ => rfl)).squeeze S128x1152 squeezes_S1x128x1152_S128x1152
abbrev rsrT (t : Fin 3) : Memref sig .tc .vmem S128x1152 .bf16 :=
  (rsrM.slice (rR t) (fun _ => rfl)).squeeze S128x1152 squeezes_S1x128x1152_S128x1152
abbrev rslT (t : Fin 3) : Memref sig .tc .vmem S128x1152 .bf16 :=
  (rslM.slice (rR t) (fun _ => rfl)).squeeze S128x1152 squeezes_S1x128x1152_S128x1152
abbrev ogH (k : Fin 4) (b : Fin 2) : Memref sig .tc .vmem S128x1024 .bf16 :=
  (ogM.slice (rG k b) (fun _ => rfl)).squeeze S128x1024 squeezes_S1x128x1024_S128x1024

theorem wx_part (k : Fin 4) (b : Fin 2) : (partH k b).view.WordExact :=
  ((Memref.isWhole_whole (sig := sig) cc0_scratch3).wordExact_slice rfl _ (words_ph k b)).reshape _ _
theorem wx_rsr (t : Fin 3) : (rsrT t).view.WordExact :=
  ((Memref.isWhole_whole (sig := sig) cc0_scratch4).wordExact_slice rfl _ (words_r t)).reshape _ _
theorem wx_rsl (t : Fin 3) : (rslT t).view.WordExact :=
  ((Memref.isWhole_whole (sig := sig) cc0_scratch5).wordExact_slice rfl _ (words_r t)).reshape _ _
theorem wx_og (k : Fin 4) (b : Fin 2) : (ogH k b).view.WordExact :=
  ((Memref.isWhole_whole (sig := sig) cc0_scratch6).wordExact_slice rfl _ (words_g k b)).reshape _ _

theorem inb_rs (r : Fin 4) (t : Fin 3) : ∀ i, (![r.val, t.val] : Fin 2 → ℕ) i + S1x1.size i ≤ S4x3.size i := by
  revert r t; decide
theorem inb_ag (r : Fin 2) (j : Fin 6) : ∀ i, (![r.val, j.val] : Fin 2 → ℕ) i + S1x1.size i ≤ S2x6.size i := by
  revert r j; decide

/-- Semaphore `(r, t)` of the reduction: rows 0 and 1 are the send and receive ends of the transfers to the right, 2 and 3 of those to the left. -/
abbrev rsS (r : Fin 4) (t : Fin 3) : DmaSem sig :=
  (((cc0_scratch7 : DmaSems sig S4x3).slice (Rect.unit (s := S4x3) ![r.val, t.val] S1x1.size (inb_rs r t))).squeeze S_ squeezes_S1x1_S_).sem
/-- Semaphore `(r, j)` of the gather: row 0 the send ends, row 1 the receive ends. -/
abbrev agS (r : Fin 2) (j : Fin 6) : DmaSem sig :=
  (((cc0_scratch8 : DmaSems sig S2x6).slice (Rect.unit (s := S2x6) ![r.val, j.val] S1x1.size (inb_ag r j))).squeeze S_ squeezes_S1x1_S_).sem
abbrev barS : Sem sig := (SemArray.scalar (sig.barrier 0 rfl) : Sems sig S_).sem

/-! ## The values the pieces store -/

/-- The queries of one half chunk: its rows of `x` times `Wq`. -/
def qPay (x : Vec F S128x1024 .f32) (wq : Vec F S1024x1024 .f32) : FVec F S128x1024 .f32 :=
  matmul dot_S128x1024_S1024x1024_S128x1024_1_0_0_1_n_n none x (shapeCast S1024x1024 wq shapeCasts_S1024x1024_S1024x1024)
    (constant S128x1024 .f32 0x00000000#32)

theorem slices_q (h : Fin 8) : S128x1024.Slices ![0, 128 * h.val] S128x128 := by revert h; decide
theorem slices_rc (h : Fin 8) : S128x1152.Slices ![0, 128 * h.val] S128x128 := by revert h; decide
theorem slices_rl (h : Fin 8) : S128x1152.Slices ![0, 1024 + h.val] S128x1 := by revert h; decide

/-- The weights of head `h`: the exponential of the scaled scores. -/
def wPay (h : Fin 8) (q : FVec F S128x1024 .f32) (k : Vec F S1x256x128 .f32) : FVec F S128x256 .f32 :=
  exp (mulf (matmul dot_S128x128_S256x128_S128x256_1_1_0_0_n_n none
      (extractStridedSlice S128x128 ![0, 128 * h.val] q (slices_q h)) (shapeCast S256x128 k shapeCasts_S1x256x128_S256x128)
      (constant S128x256 .f32 0x00000000#32))
    (broadcast S128x256 (Scalar.ofBits .f32 0x3DB504F3#32 : F .f32)))

/-- The weighted values of head `h`. -/
def cPay (w : FVec F S128x256 .f32) (v : Vec F S1x256x128 .f32) : FVec F S1x128x128 .bf16 :=
  shapeCast S1x128x128 (truncf .bf16 (matmul dot_S128x256_S256x128_S128x128_1_0_0_1_n_n none w
    (shapeCast S256x128 v shapeCasts_S1x256x128_S256x128) (constant S128x128 .f32 0x00000000#32)) bitsLt_bf16_f32)
    shapeCasts_S128x128_S1x128x128

/-- The sums of the weights of head `h`. -/
def lPay (w : FVec F S128x256 .f32) : FVec F S1x128x1 .bf16 :=
  shapeCast S1x128x1 (truncf .bf16 (shapeCast S128x1
    (multiReduction .add [1] S128 w 0x00000000#32 reduces_S128x256_S128 (.inl rfl) rfl) shapeCasts_S128_S128x1) bitsLt_bf16_f32)
    shapeCasts_S128x1_S1x128x1

/-- A received partial sum plus the device's own. -/
def aPay (r p : Vec F S1x128x1152 .bf16) : FVec F S1x128x1152 .bf16 :=
  shapeCast S1x128x1152 (addf (shapeCast S128x1152 r shapeCasts_S1x128x1152_S128x1152 : FVec F S128x1152 .bf16)
    (shapeCast S128x1152 p shapeCasts_S1x128x1152_S128x1152)) shapeCasts_S128x1152_S1x128x1152

/-- The normalised context of head `h`: the summed weighted values by the summed weights. -/
def nPay (h : Fin 8) (r : Vec F S1x128x1152 .bf16) : FVec F S1x128x128 .f32 :=
  shapeCast S1x128x128 (divf
    (extf .f32 (extractStridedSlice S128x128 ![0, 128 * h.val]
      (shapeCast S128x1152 r shapeCasts_S1x128x1152_S128x1152 : FVec F S128x1152 .bf16) (slices_rc h)) bitsLt_bf16_f32)
    (broadcastTo S128x128 (extf .f32 (extractStridedSlice S128x1 ![0, 1024 + h.val]
      (shapeCast S128x1152 r shapeCasts_S1x128x1152_S128x1152 : FVec F S128x1152 .bf16) (slices_rl h)) bitsLt_bf16_f32)
      broadcasts_S128x1_S128x128)) shapeCasts_S128x128_S1x128x128

/-- The projection of a normalised half. -/
def gPay (n : Vec F S1x128x1024 .f32) (wo : Vec F S1024x1024 .f32) : FVec F S1x128x1024 .bf16 :=
  shapeCast S1x128x1024 (truncf .bf16 (matmul dot_S128x1024_S1024x1024_S128x1024_1_0_0_1_n_n none
    (shapeCast S128x1024 n shapeCasts_S1x128x1024_S128x1024) (shapeCast S1024x1024 wo shapeCasts_S1024x1024_S1024x1024)
    (constant S128x1024 .f32 0x00000000#32)) bitsLt_bf16_f32) shapeCasts_S128x1024_S1x128x1024

/-! ## The pieces -/

/-- Block `4 u + r` of the queries' rows to block `4 r + u` of the permuted ones. -/
def moveRows (r u : Fin 4) : Prog (TpuEff nD τ sig (Elt F) Λ₀ .tc) PUnit := do
  let v ← Prog.lift (.load xM (rX u r).toLoadRect (View.loadsAt_vmem h_S64x1024))
  let _ ← Prog.lift (.load xpM (rX r u).toLoadRect (View.loadsAt_vmem h_S64x1024))
  Prog.lift (.store xpM (rX r u) (shapeCast S64x1024 (shapeCast S64x1024 v shapeCasts_S64x1024_S64x1024 : FVec F S64x1024 .f32) shapeCasts_S64x1024_S64x1024)
    Finset.univ (View.stores_vmem_bits_univ h_S64x1024 rfl) (.inl rfl))

/-- One block of rows of an array to block `u` of slot `k` of its gathered copy. -/
def gatherRows (src : Memref sig .tc .vmem S1024x1024 .f32) (dst : Memref sig .tc .vmem S4x256x1024 .f32) (c : Dev nD) (k u : Fin 4) : Prog (TpuEff nD τ sig (Elt F) Λ₀ .tc) PUnit := do
  let v ← Prog.lift (.load src (rC c k u).toLoadRect (View.loadsAt_vmem h_S64x1024))
  let _ ← Prog.lift (.load dst (rKV k u).toLoadRect (View.loadsAt_vmem h_S1x64x1024))
  Prog.lift (.store dst (rKV k u) (shapeCast S1x64x1024 (shapeCast S64x1024 v shapeCasts_S64x1024_S64x1024 : FVec F S64x1024 .f32) shapeCasts_S64x1024_S1x64x1024)
    Finset.univ (View.stores_vmem_bits_univ h_S1x64x1024 rfl) (.inl rfl))

def gatherKV (c : Dev nD) (k : Fin 4) : Prog (TpuEff nD τ sig (Elt F) Λ₀ .tc) PUnit := do
  gatherRows kM krM c k 0; gatherRows vM vrM c k 0
  gatherRows kM krM c k 1; gatherRows vM vrM c k 1
  gatherRows kM krM c k 2; gatherRows vM vrM c k 2
  gatherRows kM krM c k 3; gatherRows vM vrM c k 3

/-- Head `h` of half `b` of slot `k`, from its queries. -/
def headStep (k : Fin 4) (b : Fin 2) (q : FVec F S128x1024 .f32) (h : Fin 8) : Prog (TpuEff nD τ sig (Elt F) Λ₀ .tc) PUnit := do
  let kk ← Prog.lift (.load krM (rKVh k h).toLoadRect (View.loadsAt_vmem h_S1x256x128))
  let vv ← Prog.lift (.load vrM (rKVh k h).toLoadRect (View.loadsAt_vmem h_S1x256x128))
  let _ ← Prog.lift (.load partM (rPc k b h).toLoadRect (View.loadsAt_vmem h_S1x128x128))
  Prog.lift (.store partM (rPc k b h) (cPay (wPay h q kk) vv) Finset.univ
    (View.stores_vmem h_S1x128x128 ((Memref.isWhole_whole _).storeExact_slice rfl _ (packed_pc k b h)) (fun _ => rfl)) (.inl rfl))
  let _ ← Prog.lift (.load partM (rPl k b h).toLoadRect (View.loadsAt_vmem h_S1x128x1))
  Prog.lift (.store partM (rPl k b h) (lPay (wPay h q kk)) Finset.univ
    (View.stores_vmem h_S1x128x1 ((Memref.isWhole_whole _).storeExact_slice rfl _ (packed_pl k b h)) (fun _ => rfl)) (.inl rfl))

/-- Eight steps in order. -/
def each8 (p : Fin 8 → Prog (TpuEff nD τ sig (Elt F) Λ₀ .tc) PUnit) : Prog (TpuEff nD τ sig (Elt F) Λ₀ .tc) PUnit := do
  p 0; p 1; p 2; p 3; p 4; p 5; p 6; p 7
/-- Four steps in order. -/
def each4 (p : Fin 4 → Prog (TpuEff nD τ sig (Elt F) Λ₀ .tc) PUnit) : Prog (TpuEff nD τ sig (Elt F) Λ₀ .tc) PUnit := do
  p 0; p 1; p 2; p 3

def computeHalf (c : Dev nD) (k : Fin 4) (b : Fin 2) : Prog (TpuEff nD τ sig (Elt F) Λ₀ .tc) PUnit := do
  let x ← Prog.lift (.load xpM (rQ c k b).toLoadRect (View.loadsAt_vmem h_S128x1024))
  let wq ← Prog.lift (.load wqM rFull.toLoadRect (View.loadsAt_vmem h_S1024x1024))
  each8 (headStep k b (qPay x wq))

/-- Adds the device's own half `b` of slot `k` to the partial sum received in slot `t` of `r`. -/
def addStep (r : Memref sig .tc .vmem S3x128x1152 .bf16) (hr : r.IsWhole) (t : Fin 3) (k : Fin 4) (b : Fin 2) : Prog (TpuEff nD τ sig (Elt F) Λ₀ .tc) PUnit := do
  let v ← Prog.lift (.load r (rR t).toLoadRect (View.loadsAt_vmem h_S1x128x1152))
  let p ← Prog.lift (.load partM (rPh k b).toLoadRect (View.loadsAt_vmem h_S1x128x1152))
  let _ ← Prog.lift (.load r (rR t).toLoadRect (View.loadsAt_vmem h_S1x128x1152))
  Prog.lift (.store r (rR t) (aPay v p) Finset.univ
    (View.stores_vmem h_S1x128x1152 (hr.storeExact_slice rfl _ (packed_r t)) (fun _ => rfl)) (.inl rfl))

def normHead (b : Fin 2) (v : Vec F S1x128x1152 .bf16) (h : Fin 8) : Prog (TpuEff nD τ sig (Elt F) Λ₀ .tc) PUnit := do
  let _ ← Prog.lift (.load krM (rN b h).toLoadRect (View.loadsAt_vmem h_S1x128x128))
  Prog.lift (.store krM (rN b h) (nPay h v) Finset.univ (View.stores_vmem_bits_univ h_S1x128x128 rfl) (.inl rfl))

/-- Normalises and projects the summed half in slot 2 of `r`, into half `b` of slot 0 of the gathered output. -/
def projHalf (r : Memref sig .tc .vmem S3x128x1152 .bf16) (b : Fin 2) : Prog (TpuEff nD τ sig (Elt F) Λ₀ .tc) PUnit := do
  let v ← Prog.lift (.load r (rR 2).toLoadRect (View.loadsAt_vmem h_S1x128x1152))
  each8 (normHead b v)
  let n ← Prog.lift (.load krM (rG 0 b).toLoadRect (View.loadsAt_vmem h_S1x128x1024))
  let wo ← Prog.lift (.load woM rFull.toLoadRect (View.loadsAt_vmem h_S1024x1024))
  let _ ← Prog.lift (.load ogM (rG 0 b).toLoadRect (View.loadsAt_vmem h_S1x128x1024))
  Prog.lift (.store ogM (rG 0 b) (gPay n wo) Finset.univ
    (View.stores_vmem h_S1x128x1024 ((Memref.isWhole_whole _).storeExact_slice rfl _ (packed_g 0 b)) (fun _ => rfl)) (.inl rfl))

/-- Block `u` of slot `k` of the gathered output to its rows of the result. -/
def storeSlot (c : Dev nD) (k u : Fin 4) : Prog (TpuEff nD τ sig (Elt F) Λ₀ .tc) PUnit := do
  let v ← Prog.lift (.load ogM (rKV k u).toLoadRect (View.loadsAt_vmem h_S1x64x1024))
  let _ ← Prog.lift (.load outM (rC c k u).toLoadRect (View.loadsAt_vmem h_S64x1024))
  Prog.lift (.store outM (rC c k u) (extf .f32 (shapeCast S64x1024 v shapeCasts_S1x64x1024_S64x1024 : FVec F S64x1024 .bf16) bitsLt_bf16_f32)
    Finset.univ (View.stores_vmem_bits_univ h_S64x1024 rfl) (.inl rfl))

/-! ## The body -/

/-- A transfer of partial sums. -/
def sendRS (e : Dev nD) (src dst : Memref sig .tc .vmem S128x1152 .bf16) (hs : src.view.WordExact) (hd : dst.view.WordExact) (s r : DmaSem sig) : Prog (TpuEff nD τ sig (Elt F) Λ₀ .tc) PUnit :=
  Prog.lift (.enqueueDma src (.remote (Dev.tc e) dst (.dma s)) (.dma r) hs hd ⟨⟨rfl, Or.inl rfl⟩, trivial⟩)
/-- A transfer of projected rows. -/
def sendAG (e : Dev nD) (k k' : Fin 4) (b : Fin 2) (j : Fin 6) : Prog (TpuEff nD τ sig (Elt F) Λ₀ .tc) PUnit :=
  Prog.lift (.enqueueDma (ogH k b) (.remote (Dev.tc e) (ogH k' b) (.dma (agS 0 j))) (.dma (agS 1 j)) (wx_og k b) (wx_og k' b) ⟨⟨rfl, Or.inl rfl⟩, trivial⟩)
def waitRS (s : DmaSem sig) (src dst : Memref sig .tc .vmem S128x1152 .bf16) (hs : src.view.WordExact) (hd : dst.view.WordExact) : Prog (TpuEff nD τ sig (Elt F) Λ₀ .tc) PUnit :=
  Prog.lift (.waitDma2 s src dst hs hd)
def waitAG (s : DmaSem sig) (k k' : Fin 4) (b : Fin 2) : Prog (TpuEff nD τ sig (Elt F) Λ₀ .tc) PUnit :=
  Prog.lift (.waitDma2 s (ogH k b) (ogH k' b) (wx_og k b) (wx_og k' b))

/-- The handshake, and the queries' rows put in order of their chunks. -/
def stage1 (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semWaitWord barS 2#32
  each4 fun r => each4 fun u => moveRows r u

/-- The first round of the reduction. -/
def stage2 (c : Dev nD) : Prog (TpuEff nD τ sig (Elt F) Λ₀ .tc) PUnit := do
  gatherKV c 3
  computeHalf c 3 0
  sendRS ⟨k0_dev3 c, k0_dev3_lt c⟩ (partH 3 0) (rsrT 0) (wx_part 3 0) (wx_rsr 0) (rsS 0 0) (rsS 1 0)
  gatherKV c 1
  computeHalf c 1 1
  sendRS ⟨k0_dev4 c, k0_dev4_lt c⟩ (partH 1 1) (rslT 0) (wx_part 1 1) (wx_rsl 0) (rsS 2 0) (rsS 3 0)
  gatherKV c 2
  computeHalf c 2 0
  computeHalf c 2 1

/-- The second round. -/
def stage3 (c : Dev nD) : Prog (TpuEff nD τ sig (Elt F) Λ₀ .tc) PUnit := do
  waitRS (rsS 1 0) (partH 3 0) (rsrT 0) (wx_part 3 0) (wx_rsr 0)
  addStep rsrM (Memref.isWhole_whole _) 0 2 0
  sendRS ⟨k0_dev5 c, k0_dev5_lt c⟩ (rsrT 0) (rsrT 1) (wx_rsr 0) (wx_rsr 1) (rsS 0 1) (rsS 1 1)
  waitRS (rsS 3 0) (partH 1 1) (rslT 0) (wx_part 1 1) (wx_rsl 0)
  addStep rslM (Memref.isWhole_whole _) 0 2 1
  sendRS ⟨k0_dev6 c, k0_dev6_lt c⟩ (rslT 0) (rslT 1) (wx_rsl 0) (wx_rsl 1) (rsS 2 1) (rsS 3 1)
  computeHalf c 1 0
  computeHalf c 3 1

/-- The third round. -/
def stage4 (c : Dev nD) : Prog (TpuEff nD τ sig (Elt F) Λ₀ .tc) PUnit := do
  waitRS (rsS 1 1) (rsrT 0) (rsrT 1) (wx_rsr 0) (wx_rsr 1)
  addStep rsrM (Memref.isWhole_whole _) 1 1 0
  sendRS ⟨k0_dev7 c, k0_dev7_lt c⟩ (rsrT 1) (rsrT 2) (wx_rsr 1) (wx_rsr 2) (rsS 0 2) (rsS 1 2)
  waitRS (rsS 3 1) (rslT 0) (rslT 1) (wx_rsl 0) (wx_rsl 1)
  addStep rslM (Memref.isWhole_whole _) 1 3 1
  sendRS ⟨k0_dev8 c, k0_dev8_lt c⟩ (rslT 1) (rslT 2) (wx_rsl 1) (wx_rsl 2) (rsS 2 2) (rsS 3 2)
  gatherKV c 0
  computeHalf c 0 0
  computeHalf c 0 1

/-- The reduced chunk, normalised, projected, and sent to both neighbours. -/
def stage5 (c : Dev nD) : Prog (TpuEff nD τ sig (Elt F) Λ₀ .tc) PUnit := do
  waitRS (rsS 1 2) (rsrT 1) (rsrT 2) (wx_rsr 1) (wx_rsr 2)
  addStep rsrM (Memref.isWhole_whole _) 2 0 0
  waitRS (rsS 3 2) (rslT 1) (rslT 2) (wx_rsl 1) (wx_rsl 2)
  addStep rslM (Memref.isWhole_whole _) 2 0 1
  projHalf rsrM 0
  sendAG ⟨k0_dev9 c, k0_dev9_lt c⟩ 0 3 0 0
  sendAG ⟨k0_dev10 c, k0_dev10_lt c⟩ 0 1 0 1
  projHalf rslM 1
  sendAG ⟨k0_dev11 c, k0_dev11_lt c⟩ 0 3 1 2
  sendAG ⟨k0_dev12 c, k0_dev12_lt c⟩ 0 1 1 3

/-- The neighbours' chunks received and passed on, every slot stored. -/
def stage6 (c : Dev nD) : Prog (TpuEff nD τ sig (Elt F) Λ₀ .tc) PUnit := do
  each4 (storeSlot c 0)
  waitAG (agS 1 0) 0 3 0
  waitAG (agS 1 1) 0 1 0
  sendAG ⟨k0_dev13 c, k0_dev13_lt c⟩ 1 2 0 4
  waitAG (agS 1 2) 0 3 1
  waitAG (agS 1 3) 0 1 1
  sendAG ⟨k0_dev14 c, k0_dev14_lt c⟩ 3 2 1 5
  each4 (storeSlot c 1)
  each4 (storeSlot c 3)
  waitAG (agS 1 4) 1 2 0
  waitAG (agS 1 5) 3 2 1
  each4 (storeSlot c 2)

/-- The send ends collected. -/
def stage7 : Prog (TpuEff nD τ sig (Elt F) Λ₀ .tc) PUnit := do
  waitRS (rsS 0 0) (rsrT 0) (partH 3 0) (wx_rsr 0) (wx_part 3 0)
  waitRS (rsS 2 0) (rslT 0) (partH 1 1) (wx_rsl 0) (wx_part 1 1)
  waitRS (rsS 0 1) (rsrT 1) (rsrT 0) (wx_rsr 1) (wx_rsr 0)
  waitRS (rsS 2 1) (rslT 1) (rslT 0) (wx_rsl 1) (wx_rsl 0)
  waitRS (rsS 0 2) (rsrT 2) (rsrT 1) (wx_rsr 2) (wx_rsr 1)
  waitRS (rsS 2 2) (rslT 2) (rslT 1) (wx_rsl 2) (wx_rsl 1)
  waitAG (agS 0 0) 3 0 0
  waitAG (agS 0 1) 1 0 0
  waitAG (agS 0 2) 3 0 1
  waitAG (agS 0 3) 1 0 1
  waitAG (agS 0 4) 2 1 0
  waitAG (agS 0 5) 2 3 1

def body : Prog (TpuEff nD τ sig (Elt F) Λ₀ .tc) PUnit := do
  let c ← Prog.lift .deviceId
  stage1 c; stage2 c; stage3 c; stage4 c; stage5 c; stage6 c; stage7

set_option maxRecDepth 1000000 in
/-- The printed body is the composition of the pieces. -/
theorem body_eq (t : Fin cfg0.N) : bodyAt0 (F := F) t = body := by chain_rfl

end Cert.KernelIdealProof
-- ==== Proof.KernelIdeal.Values.lean ====
/-
What the kernel computes, as plain functions of the five inputs of the four devices: the weighted sums of each half chunk,
their sums on the way round the ring in each direction, the projected halves, and the result. Nothing here speaks of the
run; the float operations are arbitrary.

In a weighted-sum block of 1152 columns, columns 0 … 1023 are the weighted values of the eight heads, columns
1024 … 1031 the sums of the weights. The columns from 1032 on are never written; the functions here take a fixed value
there, and every statement about the memory speaks of the columns below 1032 only.
-/
module

public import proofs.«01_k».proof.Proof.KernelIdeal.Body
public import Idealize.ShloMosaic.Lib.Pointwise

@[expose] public section

noncomputable section

namespace Cert.KernelIdealProof

open Cert.KernelIdeal Cert.KernelIdeal.Gen
open Idealize.ShloMosaic Idealize.ShloMosaic.TcCoe

variable {F : FTy → Type} [FloatOps F]

/-! ## The ring -/

/-- The device on the right of `c`. -/
abbrev rt (c : Dev nD) : Dev nD := ⟨(c.val + 1) % 4, Nat.mod_lt _ (by decide)⟩
/-- The device on the left of `c`. -/
abbrev lt (c : Dev nD) : Dev nD := ⟨(c.val + 3) % 4, Nat.mod_lt _ (by decide)⟩
/-- The device `k` places to the right of `c`. -/
abbrev rtN (c : Dev nD) (k : Fin 4) : Dev nD := ⟨(c.val + k.val) % 4, Nat.mod_lt _ (by decide)⟩

theorem lt_rt (c : Dev nD) : lt (rt c) = c := by revert c; decide
theorem rt_lt (c : Dev nD) : rt (lt c) = c := by revert c; decide
theorem rtN_zero (c : Dev nD) : rtN c 0 = c := by revert c; decide
theorem rtN_one (c : Dev nD) : rtN c 1 = rt c := by revert c; decide
theorem rtN_two (c : Dev nD) : rtN c 2 = rt (rt c) := by revert c; decide
theorem rtN_two' (c : Dev nD) : rtN c 2 = lt (lt c) := by revert c; decide
theorem rtN_three (c : Dev nD) : rtN c 3 = lt c := by revert c; decide

/-! ## The inputs -/

/-- The five inputs of every device. -/
structure Inp (F : FTy → Type) where
  x : Dev nD → Vec F S1024x1024 .f32
  wq : Dev nD → Vec F S1024x1024 .f32
  k : Dev nD → Vec F S1024x1024 .f32
  v : Dev nD → Vec F S1024x1024 .f32
  wo : Dev nD → Vec F S1024x1024 .f32

variable (I : Inp F)

/-- The row of `x` that row `i` of the permuted queries holds: block `4 u + r` at block `4 r + u`. -/
def srcRow (i : Fin 1024) : Fin 1024 := ⟨256 * (i.val / 64 % 4) + 64 * (i.val / 256) + i.val % 64, by omega⟩

/-- The queries' rows, ordered by chunk. -/
def xpF (x : Vec F S1024x1024 .f32) : Vec F S1024x1024 .f32 := fun i => x (ix2 (srcRow (i 0)) (i 1))

/-- The row of an array that row `j` of slot `k` of its gathered copy holds, on device `c`. -/
def kvRow (c : Dev nD) (k : Fin 4) (j : Fin 256) : Fin 1024 :=
  ⟨256 * (j.val / 64) + 64 * ((c.val + k.val) % 4) + j.val % 64, by omega⟩

/-- The gathered copy of an array, on device `c`. -/
def kvF (c : Dev nD) (a : Vec F S1024x1024 .f32) : Vec F S4x256x1024 .f32 := fun i => a (ix2 (kvRow c (i 0) (i 1)) (i 2))

/-- The queries of half `b` of slot `k` on device `c`. -/
def qV (c : Dev nD) (k : Fin 4) (b : Fin 2) : FVec F S128x1024 .f32 :=
  qPay (fun x => xpF (I.x c) ((rQ c k b).emb x)) (I.wq c)

/-- The weights of one head of half `b` of slot `k` on device `c`. -/
def wV (c : Dev nD) (k : Fin 4) (b : Fin 2) (h : Fin 8) : FVec F S128x256 .f32 :=
  wPay h (qV I c k b) (fun x => kvF c (I.k c) ((rKVh k h).emb x))

/-- Their weighted values. -/
def cV (c : Dev nD) (k : Fin 4) (b : Fin 2) (h : Fin 8) : FVec F S1x128x128 .bf16 :=
  cPay (wV I c k b h) (fun x => kvF c (I.v c) ((rKVh k h).emb x))

/-- The weighted sums of half `b` of slot `k` on device `c`. -/
def partV (c : Dev nD) (k : Fin 4) (b : Fin 2) : Vec F S1x128x1152 .bf16 := fun x =>
  if h : (x 2).val < 1024 then cV I c k b ⟨(x 2).val / 128, by omega⟩ (ix3 0 (x 1) ⟨(x 2).val % 128, by omega⟩)
  else if h' : (x 2).val < 1032 then lPay (wV I c k b ⟨(x 2).val - 1024, by omega⟩) (ix3 0 (x 1) 0)
  else lPay (wV I c k b 0) (ix3 0 (x 1) 0)

/-! ## The sums round the ring -/

/-- What device `c` receives from its left in each round, and has after adding its own part. -/
def R0 (c : Dev nD) : Vec F S1x128x1152 .bf16 := partV I (lt c) 3 0
def A0 (c : Dev nD) : Vec F S1x128x1152 .bf16 := aPay (R0 I c) (partV I c 2 0)
def R1 (c : Dev nD) : Vec F S1x128x1152 .bf16 := A0 I (lt c)
def A1 (c : Dev nD) : Vec F S1x128x1152 .bf16 := aPay (R1 I c) (partV I c 1 0)
def R2 (c : Dev nD) : Vec F S1x128x1152 .bf16 := A1 I (lt c)
def A2 (c : Dev nD) : Vec F S1x128x1152 .bf16 := aPay (R2 I c) (partV I c 0 0)

/-- The same from its right. -/
def L0 (c : Dev nD) : Vec F S1x128x1152 .bf16 := partV I (rt c) 1 1
def B0 (c : Dev nD) : Vec F S1x128x1152 .bf16 := aPay (L0 I c) (partV I c 2 1)
def L1 (c : Dev nD) : Vec F S1x128x1152 .bf16 := B0 I (rt c)
def B1 (c : Dev nD) : Vec F S1x128x1152 .bf16 := aPay (L1 I c) (partV I c 3 1)
def L2 (c : Dev nD) : Vec F S1x128x1152 .bf16 := B1 I (rt c)
def B2 (c : Dev nD) : Vec F S1x128x1152 .bf16 := aPay (L2 I c) (partV I c 0 1)

/-! ## The projected halves and the result -/

/-- The normalised context of a summed half. -/
def nrm (a : Vec F S1x128x1152 .bf16) : Vec F S1x128x1024 .f32 := fun x =>
  nPay ⟨(x 2).val / 128, by have := (x 2).isLt; change (x 2).val < 1024 at this; omega⟩ a
    (ix3 0 (x 1) ⟨(x 2).val % 128, by omega⟩)

/-- Half `b` of the output chunk of device `c`. -/
def oV (c : Dev nD) (b : Fin 2) : FVec F S1x128x1024 .bf16 :=
  gPay (nrm (if b = 0 then A2 I c else B2 I c)) (I.wo c)

/-- The result, the same on every device: block `β` of 64 rows is block `β / 4` of device `β % 4`'s chunk. -/
def outF : Vec F S1024x1024 .f32 := fun i =>
  have h0 : (i 0).val < 1024 := (i 0).isLt
  FloatOps.extf (F := F) (φ := .bf16) .f32 bitsLt_bf16_f32 (oV I ⟨(i 0).val / 64 % 4, by have : nD = 4 := rfl; omega⟩ ⟨(i 0).val / 512, by omega⟩
    (ix3 0 ⟨64 * ((i 0).val / 256 % 2) + (i 0).val % 64, by omega⟩ (i 1)))

/-! ## Of a summed block only the columns below 1032 are read -/

/-- Two blocks agree on the columns below 1032. -/
def Agree (f g : Vec F S1x128x1152 .bf16) : Prop := ∀ x : S1x128x1152.Idx, (x 2).val < 1032 → f x = g x

theorem aPay_apply (r p : Vec F S1x128x1152 .bf16) (x : S1x128x1152.Idx) :
    aPay r p x = FloatOps.addf (F := F) (φ := .bf16) (r x) (p x) := by
  unfold aPay; pointwise []

theorem aPay_agree {r r' p p' : Vec F S1x128x1152 .bf16} (hr : Agree r r') (hp : Agree p p') : Agree (aPay r p) (aPay r' p') := by
  intro x hx
  rw [aPay_apply, aPay_apply, hr x hx, hp x hx]

theorem nPay_apply (h : Fin 8) (r : Vec F S1x128x1152 .bf16) (x : S1x128x128.Idx) :
    nPay h r x = FloatOps.divf (F := F) (FloatOps.extf (F := F) (φ := .bf16) .f32 bitsLt_bf16_f32 (r (ix3 0 (x 1) ⟨128 * h.val + (x 2).val, by have := (x 2).isLt; change (x 2).val < 128 at this; omega⟩)))
      (FloatOps.extf (F := F) (φ := .bf16) .f32 bitsLt_bf16_f32 (r (ix3 0 (x 1) ⟨1024 + h.val, by omega⟩))) := by
  unfold nPay; pointwise []

theorem nrm_agree {r r' : Vec F S1x128x1152 .bf16} (hr : Agree r r') : nrm r = nrm r' := by
  funext x
  unfold nrm
  rw [nPay_apply, nPay_apply, hr, hr]
  · change 1024 + _ < 1032; have := (x 2).isLt; change (x 2).val < 1024 at this; dsimp; omega
  · have := (x 2).isLt; change (x 2).val < 1024 at this; change 128 * ((x 2).val / 128) + (x 2).val % 128 < 1032; omega

end Cert.KernelIdealProof
-- ==== Proof.KernelIdeal.Own.lean ====
/-
The ownership of a part of a buffer by the values it holds, and the rules for one load and one store under it.
-/
module

public import proofs.«01_k».proof.Proof.KernelIdeal.Values
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, whose duties are named by `Bool` -/

abbrev UB : Type := URounds (GSem nD τ sig) Bool
abbrev UU : Type := UR sig nD τ × UB

local notation "𝕄" => MT nD τ sig Unit (Elt F) ℕ UU ℕ

/-- No loop of this kernel is run by a variant. -/
abbrev 𝒱₀ : Variants := Variants.none

/-- The weakest precondition of a program of device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {s : Shape} {e : EltTy}

/-- The values of a buffer after `w` is stored through the rectangle `r`. -/
def put (r : Rect s) (w : r.shape.Idx → Elt F e) (g : s.Idx → Elt F e) : s.Idx → Elt F e :=
  open Classical in fun i => if h : ∃ x, r.emb x = i then w h.choose else g i

theorem put_emb (r : Rect s) (w : r.shape.Idx → Elt F e) (g : s.Idx → Elt F e) (x : r.shape.Idx) : put r w g (r.emb x) = w x := by
  have h : ∃ y, r.emb y = r.emb x := ⟨x, rfl⟩
  unfold put
  rw [dif_pos h, r.emb.injective h.choose_spec]

theorem put_off (r : Rect s) (w : r.shape.Idx → Elt F e) (g : s.Idx → Elt F e) {i : s.Idx} (hi : i ∉ r.set) : put r w g i = g i := by
  unfold put
  rw [dif_neg]
  rintro ⟨x, rfl⟩
  exact hi (r.idx_mem x)

/-- Device `c` holds the elements `S` of memref `m` at share `q`, and they hold the values `g`. -/
def own (c : Dev nD) (m : Memref sig .tc .vmem s e) (S : Finset s.Idx) (q : PosShare TreeShare) (g : s.Idx → Elt F e) : sProp 𝕄 :=
  iprop(∃ f : Buf (Elt F) (m.view.loc (c : Thread nD τ)), ⌜∀ i ∈ S, m.view.read (Elt F) f i = g i⌝
    ∗ (m.view.loc (c : Thread nD τ)) ↦[m.view.setOn S]{q} f)

instance (c : Dev nD) (m : Memref sig .tc .vmem s e) (S : Finset s.Idx) (q : PosShare TreeShare) (g : s.Idx → Elt F e) :
    BI.Storable (upEmb : UEmb _ 𝕄) (own c m S q g) := by unfold own; infer_instance

theorem own_congr {c : Dev nD} {m : Memref sig .tc .vmem s e} {S : Finset s.Idx} {q : PosShare TreeShare} {g g' : s.Idx → Elt F e}
    (h : ∀ i ∈ S, g i = g' i) : (own c m S q g : sProp 𝕄) ⊢ own c m S q g' := by
  unfold own
  iintro ⟨%f, %hf, H⟩
  iexists f
  isplitr [H]
  · ipureintro; intro i hi; rw [hf i hi, h i hi]
  · iexact H

theorem wp_loadO (c : Dev nD) {m : Memref sig .tc .vmem s e} {r : Rect s} {hl : m.view.LoadsAt r.toLoadRect} {α : Type}
    {k : (r.shape.Idx → Elt F e) → Prog (TpuEff nD τ sig (Elt F) Λ₀ .tc) α} {S : Finset s.Idx} {q : PosShare TreeShare}
    {g : s.Idx → Elt F e} {Q : α → sProp 𝕄} (hS : r.set ⊆ S) :
    (own c m S q g : sProp 𝕄) ⊢ iprop((own c m S q g -∗ WP c (k fun x => g (r.emb x)) Q) -∗ WP c (.op (.load m r.toLoadRect hl) k) Q) := by
  unfold own
  iintro ⟨%f, %hf, H⟩ Hk
  iapply (wp_load 𝒱₀ (c : Thread nD τ) none Set.univ (m := m) (r := r.toLoadRect) (S := m.view.setOn S) (Finset.map_subset_map.mpr hS)) $$ H
  iintro H
  have hv : m.view.readAt (Elt F) r.toLoadRect f = fun x => g (r.emb x) := by
    funext x
    exact hf _ (hS (r.idx_mem x))
  rw [hv]
  iapply Hk
  iexists f
  isplitr [H]
  · ipureintro; exact hf
  · iexact H

theorem wp_storeO (c : Dev nD) {m : Memref sig .tc .vmem s e} {r : Rect s} {w : r.shape.Idx → Elt F e}
    {hx : (m.access r).Stores Finset.univ} {hm : (Finset.univ : Finset r.shape.Idx) = Finset.univ ∨ ∀ a, r.stride a = 1} {α : Type}
    {k : PUnit → Prog (TpuEff nD τ sig (Elt F) Λ₀ .tc) α} {S : Finset s.Idx}
    {g : s.Idx → Elt F e} {Q : α → sProp 𝕄} (hS : r.set ⊆ S) :
    (own c m S fullShare g : sProp 𝕄) ⊢ iprop((own c m S fullShare (put r w g) -∗ WP c (k ⟨⟩) Q) -∗ WP c (.op (.store m r w Finset.univ hx hm) k) Q) := by
  unfold own
  iintro ⟨%f, %hf, H⟩ Hk
  iapply (wp_store 𝒱₀ (c : Thread nD τ) none Set.univ (m := m) (r := r) (Mk := Finset.univ) (S := m.view.setOn S)
    (by rw [View.setOn_univ, View.set_slice]; exact Finset.map_subset_map.mpr hS)) $$ H
  iintro H
  iapply Hk
  iexists ((m.access r : View sig .tc .vmem r.shape e).write (Elt F) f w Finset.univ)
  isplitr [H]
  · ipureintro
    intro i hi
    by_cases h : i ∈ r.set
    · obtain ⟨x, rfl⟩ := r.exists_idx_of_mem h
      exact (View.read_slice_write_emb (v := m.view) r f w (Finset.mem_univ x)).trans (put_emb r w g x).symm
    · rw [put_off r w g h, ← hf i hi]
      exact View.read_slice_write_of_not_mem (v := m.view) (y := i) r f w Finset.univ (by
        intro h'
        obtain ⟨x, -, hx⟩ := Finset.mem_map.mp h'
        exact h (hx ▸ r.idx_mem x))
  · iexact H

/-- A program's rule applied with what the rest of the program needs held beside it. -/
theorem wp_use {c : Dev nD} {α : Type} {p : Prog (TpuEff nD τ sig (Elt F) Λ₀ .tc) α} {P : sProp 𝕄} {P' : sProp 𝕄} (h : P ⊢ WP c p fun _ => P')
    (Q : α → sProp 𝕄) : P ⊢ iprop((∀ a, P' -∗ Q a) -∗ WP c p Q) := by
  refine BI.wand_intro ?_
  exact (sep_mono_left h).trans (wp_wand_r _ _ _)

/-- The same at the head of a longer program. -/
theorem wp_then {c : Dev nD} {α β : Type} {p : Prog (TpuEff nD τ sig (Elt F) Λ₀ .tc) α} {k : α → Prog (TpuEff nD τ sig (Elt F) Λ₀ .tc) β}
    {P : sProp 𝕄} {P' : sProp 𝕄} (h : P ⊢ WP c p fun _ => P') (Q : β → sProp 𝕄) :
    P ⊢ iprop((∀ a, P' -∗ WP c (k a) Q) -∗ WP c (p >>= k) Q) := by
  show P ⊢ iprop(_ -∗ wp _ _ _ _ _)
  rw [wp_bind]
  exact wp_use h _

/-- Two programs in a row. -/
theorem wp_seq {c : Dev nD} {α β : Type} {p : Prog (TpuEff nD τ sig (Elt F) Λ₀ .tc) α} {k : α → Prog (TpuEff nD τ sig (Elt F) Λ₀ .tc) β}
    {P P' : sProp 𝕄} {Q : β → sProp 𝕄} (h : P ⊢ WP c p fun _ => P') (h' : ∀ a, P' ⊢ WP c (k a) Q) : P ⊢ WP c (p >>= k) Q := by
  show P ⊢ wp _ _ _ _ _
  rw [wp_bind]
  exact h.trans (wp_mono _ _ _ h')

theorem wp_frame_on {c : Dev nD} {α : Type} {p : Prog (TpuEff nD τ sig (Elt F) Λ₀ .tc) α} {P P' R : sProp 𝕄} (h : P ⊢ WP c p fun _ => P') :
    iprop(P ∗ R) ⊢ WP c p fun _ => iprop(P' ∗ R) :=
  (sep_mono_left h).trans (wp_frame_r _ _ _)

theorem wp_each4 {c : Dev nD} {p : Fin 4 → Prog (TpuEff nD τ sig (Elt F) Λ₀ .tc) PUnit} (J : ℕ → sProp 𝕄)
    (h : ∀ u : Fin 4, J u.val ⊢ WP c (p u) fun _ => J (u.val + 1)) : J 0 ⊢ WP c (each4 p) fun _ => J 4 := by
  unfold each4
  exact wp_seq (h 0) fun _ => wp_seq (h 1) fun _ => wp_seq (h 2) fun _ => h 3

theorem wp_each8 {c : Dev nD} {p : Fin 8 → Prog (TpuEff nD τ sig (Elt F) Λ₀ .tc) PUnit} (J : ℕ → sProp 𝕄)
    (h : ∀ u : Fin 8, J u.val ⊢ WP c (p u) fun _ => J (u.val + 1)) : J 0 ⊢ WP c (each8 p) fun _ => J 8 := by
  unfold each8
  exact wp_seq (h 0) fun _ => wp_seq (h 1) fun _ => wp_seq (h 2) fun _ => wp_seq (h 3) fun _ => wp_seq (h 4) fun _ =>
    wp_seq (h 5) fun _ => wp_seq (h 6) fun _ => h 7

end Cert.KernelIdealProof
-- ==== Proof.KernelIdeal.Rects.lean ====
/-
Which elements of its buffer each rectangle of the kernel names.
-/
module

public import proofs.«01_k».proof.Proof.KernelIdeal.Own

@[expose] public section

noncomputable section

namespace Cert.KernelIdealProof

open Cert.KernelIdeal Cert.KernelIdeal.Gen
open Idealize.ShloMosaic Idealize.ShloMosaic.TcCoe

variable {F : FTy → Type} [FloatOps F]

/-! ## Offsets that depend on the device -/

theorem off1_eq (c : Dev nD) (k u : Fin 4) :
    k0_off1 c (BitVec.ofNat 32 (256 * u.val)) (BitVec.ofNat 32 k.val) = ![256 * u.val + 64 * ((c.val + k.val) % 4), 0] := by
  revert c k u; decide
theorem off2_eq (c : Dev nD) (k : Fin 4) (b : Fin 2) :
    k0_off2 c (BitVec.ofNat 32 k.val) (BitVec.ofNat 32 (128 * b.val)) = ![256 * ((c.val + k.val) % 4) + 128 * b.val, 0] := by
  revert c k b; decide

/-! ## Membership -/

theorem mem_unit2 {n0 n1 : ℕ} {off size : Fin 2 → ℕ} {inb} (i : (⟨2, ![n0, n1]⟩ : Shape).Idx) :
    i ∈ (Rect.unit (s := ⟨2, ![n0, n1]⟩) off size inb).set
      ↔ (off 0 ≤ (i 0).val ∧ (i 0).val < off 0 + size 0) ∧ (off 1 ≤ (i 1).val ∧ (i 1).val < off 1 + size 1) := by
  rw [Rect.mem_set_unit]
  exact ⟨fun h => ⟨h 0, h 1⟩, fun h a => by match a with | 0 => exact h.1 | 1 => exact h.2⟩

theorem mem_unit3 {n0 n1 n2 : ℕ} {off size : Fin 3 → ℕ} {inb} (i : (⟨3, ![n0, n1, n2]⟩ : Shape).Idx) :
    i ∈ (Rect.unit (s := ⟨3, ![n0, n1, n2]⟩) off size inb).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  exact ⟨fun h => ⟨h 0, h 1, h 2⟩, fun h a => by match a with | 0 => exact h.1 | 1 => exact h.2.1 | 2 => exact h.2.2⟩

theorem mem_rX (a b : Fin 4) (i : S1024x1024.Idx) : i ∈ (rX a b).set ↔ (i 0).val / 64 = 4 * a.val + b.val := by
  have h1 : (i 1).val < 1024 := (i 1).isLt
  rw [mem_unit2]
  change (256 * a.val + 64 * b.val ≤ (i 0).val ∧ (i 0).val < 256 * a.val + 64 * b.val + 64) ∧ (0 ≤ (i 1).val ∧ (i 1).val < 0 + 1024) ↔ _
  omega

theorem mem_rC (c : Dev nD) (k u : Fin 4) (i : S1024x1024.Idx) :
    i ∈ (rC c k u).set ↔ (i 0).val / 64 = 4 * u.val + (c.val + k.val) % 4 := by
  have h1 : (i 1).val < 1024 := (i 1).isLt
  rw [mem_unit2, off1_eq]
  change (256 * u.val + 64 * ((c.val + k.val) % 4) ≤ (i 0).val ∧ (i 0).val < 256 * u.val + 64 * ((c.val + k.val) % 4) + 64)
    ∧ (0 ≤ (i 1).val ∧ (i 1).val < 0 + 1024) ↔ _
  omega

theorem mem_rKV (k u : Fin 4) (i : S4x256x1024.Idx) : i ∈ (rKV k u).set ↔ (i 0).val = k.val ∧ (i 1).val / 64 = u.val := by
  have h1 : (i 2).val < 1024 := (i 2).isLt
  rw [mem_unit3]
  change (k.val ≤ (i 0).val ∧ (i 0).val < k.val + 1) ∧ (64 * u.val ≤ (i 1).val ∧ (i 1).val < 64 * u.val + 64)
    ∧ (0 ≤ (i 2).val ∧ (i 2).val < 0 + 1024) ↔ _
  omega

theorem mem_rPh (k : Fin 4) (b : Fin 2) (i : S4x256x1152.Idx) : i ∈ (rPh k b).set ↔ (i 0).val = k.val ∧ (i 1).val / 128 = b.val := by
  have h1 : (i 2).val < 1152 := (i 2).isLt
  rw [mem_unit3]
  change (k.val ≤ (i 0).val ∧ (i 0).val < k.val + 1) ∧ (128 * b.val ≤ (i 1).val ∧ (i 1).val < 128 * b.val + 128)
    ∧ (0 ≤ (i 2).val ∧ (i 2).val < 0 + 1152) ↔ _
  omega

theorem mem_rPc (k : Fin 4) (b : Fin 2) (h : Fin 8) (i : S4x256x1152.Idx) :
    i ∈ (rPc k b h).set ↔ (i 0).val = k.val ∧ (i 1).val / 128 = b.val ∧ (i 2).val / 128 = h.val := by
  rw [mem_unit3]
  change (k.val ≤ (i 0).val ∧ (i 0).val < k.val + 1) ∧ (128 * b.val ≤ (i 1).val ∧ (i 1).val < 128 * b.val + 128)
    ∧ (128 * h.val ≤ (i 2).val ∧ (i 2).val < 128 * h.val + 128) ↔ _
  omega

theorem mem_rPl (k : Fin 4) (b : Fin 2) (h : Fin 8) (i : S4x256x1152.Idx) :
    i ∈ (rPl k b h).set ↔ (i 0).val = k.val ∧ (i 1).val / 128 = b.val ∧ (i 2).val = 1024 + h.val := by
  rw [mem_unit3]
  change (k.val ≤ (i 0).val ∧ (i 0).val < k.val + 1) ∧ (128 * b.val ≤ (i 1).val ∧ (i 1).val < 128 * b.val + 128)
    ∧ (1024 + h.val ≤ (i 2).val ∧ (i 2).val < 1024 + h.val + 1) ↔ _
  omega

theorem mem_rR (t : Fin 3) (i : S3x128x1152.Idx) : i ∈ (rR t).set ↔ (i 0).val = t.val := by
  have h1 : (i 1).val < 128 := (i 1).isLt
  have h2 : (i 2).val < 1152 := (i 2).isLt
  rw [mem_unit3]
  change (t.val ≤ (i 0).val ∧ (i 0).val < t.val + 1) ∧ (0 ≤ (i 1).val ∧ (i 1).val < 0 + 128)
    ∧ (0 ≤ (i 2).val ∧ (i 2).val < 0 + 1152) ↔ _
  omega

theorem mem_rN (b : Fin 2) (h : Fin 8) (i : S4x256x1024.Idx) :
    i ∈ (rN b h).set ↔ (i 0).val = 0 ∧ (i 1).val / 128 = b.val ∧ (i 2).val / 128 = h.val := by
  rw [mem_unit3]
  change (0 ≤ (i 0).val ∧ (i 0).val < 0 + 1) ∧ (128 * b.val ≤ (i 1).val ∧ (i 1).val < 128 * b.val + 128)
    ∧ (128 * h.val ≤ (i 2).val ∧ (i 2).val < 128 * h.val + 128) ↔ _
  omega

theorem mem_rG (k : Fin 4) (b : Fin 2) (i : S4x256x1024.Idx) : i ∈ (rG k b).set ↔ (i 0).val = k.val ∧ (i 1).val / 128 = b.val := by
  have h1 : (i 2).val < 1024 := (i 2).isLt
  rw [mem_unit3]
  change (k.val ≤ (i 0).val ∧ (i 0).val < k.val + 1) ∧ (128 * b.val ≤ (i 1).val ∧ (i 1).val < 128 * b.val + 128)
    ∧ (0 ≤ (i 2).val ∧ (i 2).val < 0 + 1024) ↔ _
  omega

theorem mem_rFull (i : S1024x1024.Idx) : i ∈ rFull.set := by
  have h0 : (i 0).val < 1024 := (i 0).isLt
  have h1 : (i 1).val < 1024 := (i 1).isLt
  rw [mem_unit2]
  change (0 ≤ (i 0).val ∧ (i 0).val < 0 + 1024) ∧ (0 ≤ (i 1).val ∧ (i 1).val < 0 + 1024)
  omega

theorem emb_rFull (i : S1024x1024.Idx) : rFull.emb i = i := by
  funext a
  apply Fin.ext
  rw [Rect.emb_apply]
  match a with
  | 0 => change 0 + 1 * (i 0).val = _; omega
  | 1 => change 0 + 1 * (i 1).val = _; omega

theorem rPc_sub (k : Fin 4) (b : Fin 2) (h : Fin 8) : (rPc k b h).set ⊆ (rPh k b).set := by
  intro i hi; rw [mem_rPc] at hi; rw [mem_rPh]; exact ⟨hi.1, hi.2.1⟩
theorem rPl_sub (k : Fin 4) (b : Fin 2) (h : Fin 8) : (rPl k b h).set ⊆ (rPh k b).set := by
  intro i hi; rw [mem_rPl] at hi; rw [mem_rPh]; exact ⟨hi.1, hi.2.1⟩
theorem rKV_sub (k u : Fin 4) (b : Fin 2) (h : u.val / 2 = b.val) : (rKV k u).set ⊆ (rG k b).set := by
  intro i hi; rw [mem_rKV] at hi; rw [mem_rG]; omega

/-! ## What a store leaves at an element -/

theorem put_eq {s : Shape} {e : EltTy} {r : Rect s} {w : r.shape.Idx → Elt F e} {g G : s.Idx → Elt F e} {i : s.Idx}
    (hw : ∀ x, w x = G (r.emb x)) (hg : i ∉ r.set → g i = G i) : put r w g i = G i := by
  by_cases h : i ∈ r.set
  · obtain ⟨x, rfl⟩ := r.exists_idx_of_mem h
    exact (put_emb r w g x).trans (hw x)
  · rw [put_off r w g h, hg h]

end Cert.KernelIdealProof
-- ==== Proof.KernelIdeal.Steps.lean ====
/-
The rule of each of the body's pieces that touches only the device's own memory.
-/
module

public import proofs.«01_k».proof.Proof.KernelIdeal.Rects

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the device holds -/

/-- A whole buffer that holds `g`. -/
abbrev full {s : Shape} {e : EltTy} (c : Dev nD) (m : Memref sig .tc .vmem s e) (g : s.Idx → Elt F e) : sProp 𝕄 := own c m Finset.univ fullShare g

/-- A whole buffer of unknown contents. -/
abbrev anyFull {s : Shape} {e : EltTy} (c : Dev nD) (m : Memref sig .tc .vmem s e) : sProp 𝕄 := iprop(∃ g, full c m g)

/-- A whole buffer with known contents where `P` says. -/
abbrev fullP {s : Shape} {e : EltTy} (c : Dev nD) (m : Memref sig .tc .vmem s e) (P : (s.Idx → Elt F e) → Prop) : sProp 𝕄 := iprop(∃ g, ⌜P g⌝ ∗ full c m g)

/-- Half `b` of slot `k` of the weighted sums. -/
def partP (c : Dev nD) (k : Fin 4) (b : Fin 2) (P : Vec F S1x128x1152 .bf16) : sProp 𝕄 :=
  iprop(∃ g, ⌜Agree (fun x => g ((rPh k b).emb x)) P⌝ ∗ own c partM (rPh k b).set fullShare g)
def partAny (c : Dev nD) (k : Fin 4) (b : Fin 2) : sProp 𝕄 := iprop(∃ g : S4x256x1152.Idx → Elt F .bf16, own c partM (rPh k b).set fullShare g)

/-- Slot `t` of a receive buffer of the reduction. -/
def recvP (r : Memref sig .tc .vmem S3x128x1152 .bf16) (c : Dev nD) (t : Fin 3) (P : Vec F S1x128x1152 .bf16) : sProp 𝕄 :=
  iprop(∃ g, ⌜Agree (fun x => g ((rR t).emb x)) P⌝ ∗ own c r (rR t).set fullShare g)
def recvAny (r : Memref sig .tc .vmem S3x128x1152 .bf16) (c : Dev nD) (t : Fin 3) : sProp 𝕄 :=
  iprop(∃ g : S3x128x1152.Idx → Elt F .bf16, own c r (rR t).set fullShare g)

/-- Half `b` of slot `k` of the gathered output, at a share. -/
def ogP (c : Dev nD) (k : Fin 4) (b : Fin 2) (q : PosShare TreeShare) (w : Vec F S1x128x1024 .bf16) : sProp 𝕄 :=
  iprop(∃ g, ⌜∀ x, g ((rG k b).emb x) = w x⌝ ∗ own c ogM (rG k b).set q g)
def ogAny (c : Dev nD) (k : Fin 4) (b : Fin 2) : sProp 𝕄 :=
  iprop(∃ g : S4x256x1024.Idx → Elt F .bf16, own c ogM (rG k b).set fullShare g)

instance (c : Dev nD) (k : Fin 4) (b : Fin 2) (P : Vec F S1x128x1152 .bf16) : BI.Storable (upEmb : UEmb _ 𝕄) (partP c k b P) := by
  unfold partP; infer_instance
instance (c : Dev nD) (k : Fin 4) (b : Fin 2) : BI.Storable (upEmb : UEmb _ 𝕄) (partAny (F := F) c k b) := by unfold partAny; infer_instance
instance (r : Memref sig .tc .vmem S3x128x1152 .bf16) (c : Dev nD) (t : Fin 3) (P : Vec F S1x128x1152 .bf16) : BI.Storable (upEmb : UEmb _ 𝕄) (recvP r c t P) := by
  unfold recvP; infer_instance
instance (r : Memref sig .tc .vmem S3x128x1152 .bf16) (c : Dev nD) (t : Fin 3) : BI.Storable (upEmb : UEmb _ 𝕄) (recvAny (F := F) r c t) := by unfold recvAny; infer_instance
instance (c : Dev nD) (k : Fin 4) (b : Fin 2) (q : PosShare TreeShare) (w : Vec F S1x128x1024 .bf16) : BI.Storable (upEmb : UEmb _ 𝕄) (ogP c k b q w) := by
  unfold ogP; infer_instance
instance (c : Dev nD) (k : Fin 4) (b : Fin 2) : BI.Storable (upEmb : UEmb _ 𝕄) (ogAny (F := F) c k b) := by unfold ogAny; infer_instance

theorem partP_any (c : Dev nD) (k : Fin 4) (b : Fin 2) (P : Vec F S1x128x1152 .bf16) : partP c k b P ⊢ (partAny c k b : sProp 𝕄) := by
  unfold partP partAny; iintro ⟨%g, -, H⟩; iexists g; iexact H
theorem recvP_any (r : Memref sig .tc .vmem S3x128x1152 .bf16) (c : Dev nD) (t : Fin 3) (P : Vec F S1x128x1152 .bf16) : recvP r c t P ⊢ (recvAny r c t : sProp 𝕄) := by
  unfold recvP recvAny; iintro ⟨%g, -, H⟩; iexists g; iexact H
theorem ogP_any (c : Dev nD) (k : Fin 4) (b : Fin 2) (w : Vec F S1x128x1024 .bf16) : ogP c k b fullShare w ⊢ (ogAny c k b : sProp 𝕄) := by
  unfold ogP ogAny; iintro ⟨%g, -, H⟩; iexists g; iexact H

/-! ## The queries' rows -/

theorem cast64 (v : Vec F S64x1024 .f32) : shapeCast S64x1024 (shapeCast S64x1024 v shapeCasts_S64x1024_S64x1024 : FVec F S64x1024 .f32) shapeCasts_S64x1024_S64x1024 = v := by
  funext x; pointwise []

theorem xp_emb (X : Vec F S1024x1024 .f32) (r u : Fin 4) (x : S64x1024.Idx) : X ((rX u r).emb x) = xpF X ((rX r u).emb x) := by
  unfold xpF
  congr 1
  have h0 : (x 0).val < 64 := (x 0).isLt
  funext a
  apply Fin.ext
  match a with
  | 0 =>
    change 256 * u.val + 64 * r.val + 1 * (x 0).val = 256 * ((256 * r.val + 64 * u.val + 1 * (x 0).val) / 64 % 4)
      + 64 * ((256 * r.val + 64 * u.val + 1 * (x 0).val) / 256) + (256 * r.val + 64 * u.val + 1 * (x 0).val) % 64
    omega
  | 1 => rfl

theorem moveRows_wp (c : Dev nD) (X : Vec F S1024x1024 .f32) (r u : Fin 4) :
    iprop(full c xM X ∗ fullP c xpM (fun g => ∀ i : S1024x1024.Idx, (i 0).val / 64 < 4 * r.val + u.val → g i = xpF X i))
      ⊢ WP c (moveRows r u) fun _ => iprop(full c xM X ∗ fullP c xpM (fun g => ∀ i : S1024x1024.Idx, (i 0).val / 64 < 4 * r.val + (u.val + 1) → g i = xpF X i)) := by
  unfold moveRows
  simp only [Prog.lift, Prog.bind_op, Prog.bind_ret]
  iintro ⟨Hx, %g, %hg, Hp⟩
  iapply (wp_loadO c (m := xM) (r := rX u r) (Finset.subset_univ _)) $$ Hx
  iintro Hx
  iapply (wp_loadO c (m := xpM) (r := rX r u) (Finset.subset_univ _)) $$ Hp
  iintro Hp
  iapply (wp_storeO c (m := xpM) (r := rX r u) (Finset.subset_univ _)) $$ Hp
  iintro Hp
  simp only [wp_ret]
  imodintro
  isplitl [Hx]; · iexact Hx
  iexists _
  isplitr [Hp]
  swap; · iexact Hp
  ipureintro
  intro i hi
  refine put_eq (G := xpF X) (fun x => ?_) fun h => ?_
  · rw [cast64]; exact xp_emb X r u x
  · rw [mem_rX] at h; exact hg i (by omega)

theorem moveAll_wp (c : Dev nD) (X : Vec F S1024x1024 .f32) :
    iprop(full c xM X ∗ anyFull c xpM)
      ⊢ WP c (each4 fun r => each4 fun u => moveRows r u) fun _ => iprop(full c xM X ∗ full c xpM (xpF X)) := by
  have h := wp_each4 (c := c) (p := fun r => each4 fun u => moveRows (F := F) r u)
    (fun n => iprop(full c xM X ∗ fullP c xpM (fun g => ∀ i : S1024x1024.Idx, (i 0).val / 64 < 4 * n + 0 → g i = xpF X i)))
    (fun r => wp_each4 (c := c) (p := fun u => moveRows (F := F) r u)
      (fun n => iprop(full c xM X ∗ fullP c xpM (fun g => ∀ i : S1024x1024.Idx, (i 0).val / 64 < 4 * r.val + n → g i = xpF X i)))
      fun u => moveRows_wp c X r u)
  refine BIBase.Entails.trans ?_ (h.trans (wp_mono _ _ _ fun _ => ?_))
  · iintro ⟨Hx, %g, Hp⟩
    isplitl [Hx]; · iexact Hx
    iexists g
    isplitr [Hp]
    · ipureintro; intro i hi; omega
    · iexact Hp
  · iintro ⟨Hx, %g, %hg, Hp⟩
    isplitl [Hx]; · iexact Hx
    iapply (own_congr (g := g) fun i _ => hg i (by have : (i 0).val < 1024 := (i 0).isLt; omega)); iexact Hp

/-! ## The keys and values gathered -/

/-- The slots `D` of a gathered copy are in place. -/
def Slots (D : Finset (Fin 4)) (G g : S4x256x1024.Idx → Elt F .f32) : Prop := ∀ i, i 0 ∈ D → g i = G i

theorem cast1x64 (v : Vec F S64x1024 .f32) (x : S1x64x1024.Idx) :
    shapeCast S1x64x1024 (shapeCast S64x1024 v shapeCasts_S64x1024_S64x1024 : FVec F S64x1024 .f32) shapeCasts_S64x1024_S1x64x1024 x = v (ix2 (x 1) (x 2)) := by
  pointwise []

theorem emb_rC (c : Dev nD) (k u : Fin 4) (a : Fin 64) (b : Fin 1024) :
    (rC c k u).emb (ix2 a b) = ix2 ⟨256 * u.val + 64 * ((c.val + k.val) % 4) + a.val, by omega⟩ b := by
  have h := off1_eq c k u
  have h0 := congrFun h 0
  have h1 := congrFun h 1
  change _ = 256 * u.val + 64 * ((c.val + k.val) % 4) at h0
  change _ = 0 at h1
  funext i
  apply Fin.ext
  rw [Rect.emb_apply]
  match i with
  | 0 => exact (congrArg (· + 1 * a.val) h0).trans (congrArg _ (Nat.one_mul _))
  | 1 => exact (congrArg (· + 1 * b.val) h1).trans ((Nat.zero_add _).trans (Nat.one_mul _))

theorem kv_emb (c : Dev nD) (A : Vec F S1024x1024 .f32) (k u : Fin 4) (x : S1x64x1024.Idx) :
    A ((rC c k u).emb (ix2 (x 1) (x 2))) = kvF c A ((rKV k u).emb x) := by
  unfold kvF
  refine (congrArg A (emb_rC c k u (x 1) (x 2))).trans (congrArg A ?_)
  have h0 : (x 0).val < 1 := (x 0).isLt
  have h1 : (x 1).val < 64 := (x 1).isLt
  funext a
  apply Fin.ext
  match a with
  | 0 =>
    change 256 * u.val + 64 * ((c.val + k.val) % 4) + (x 1).val = 256 * ((64 * u.val + 1 * (x 1).val) / 64)
      + 64 * ((c.val + (k.val + 1 * (x 0).val)) % 4) + (64 * u.val + 1 * (x 1).val) % 64
    have : (x 0).val = 0 := by omega
    rw [this, Nat.mul_zero, Nat.add_zero]
    omega
  | 1 => change (x 2).val = 0 + 1 * (x 2).val; omega

/-- The blocks below `n` of slot `k`, and the other slots of `D`. -/
def SlotsTo (D : Finset (Fin 4)) (k : Fin 4) (n : ℕ) (G g : S4x256x1024.Idx → Elt F .f32) : Prop :=
  ∀ i, ((i 0 ∈ D ∧ i 0 ≠ k) ∨ (i 0 = k ∧ (i 1).val / 64 < n)) → g i = G i

theorem gatherRows_wp (c : Dev nD) (src : Memref sig .tc .vmem S1024x1024 .f32) (dst : Memref sig .tc .vmem S4x256x1024 .f32)
    (A : Vec F S1024x1024 .f32) (D : Finset (Fin 4)) (k u : Fin 4) :
    iprop(full c src A ∗ fullP c dst (SlotsTo D k u.val (kvF c A)))
      ⊢ WP c (gatherRows src dst c k u) fun _ => iprop(full c src A ∗ fullP c dst (SlotsTo D k (u.val + 1) (kvF c A))) := by
  unfold gatherRows
  simp only [Prog.lift, Prog.bind_op, Prog.bind_ret]
  iintro ⟨Hx, %g, %hg, Hp⟩
  iapply (wp_loadO c (m := src) (r := rC c k u) (Finset.subset_univ _)) $$ Hx
  iintro Hx
  iapply (wp_loadO c (m := dst) (r := rKV k u) (Finset.subset_univ _)) $$ Hp
  iintro Hp
  iapply (wp_storeO c (m := dst) (r := rKV k u) (Finset.subset_univ _)) $$ Hp
  iintro Hp
  simp only [wp_ret]
  imodintro
  isplitl [Hx]; · iexact Hx
  iexists _
  isplitr [Hp]
  swap; · iexact Hp
  ipureintro
  intro i hi
  refine put_eq (G := kvF c A) (fun x => ?_) fun h => hg i ?_
  · rw [cast1x64]; exact kv_emb c A k u x
  · rw [mem_rKV] at h
    rcases hi with hi | ⟨hi, hi'⟩
    · exact .inl hi
    · exact .inr ⟨hi, by have := congrArg Fin.val hi; omega⟩

theorem slotsTo_zero {D : Finset (Fin 4)} (k : Fin 4) {G g : S4x256x1024.Idx → Elt F .f32} (h : Slots D G g) : SlotsTo D k 0 G g := by
  rintro i (hi | hi)
  · exact h i hi.1
  · omega

theorem slots_insert {D : Finset (Fin 4)} (k : Fin 4) {G g : S4x256x1024.Idx → Elt F .f32} (h : SlotsTo D k 4 G g) : Slots (insert k D) G g := by
  intro i hi
  have h1 : (i 1).val < 256 := (i 1).isLt
  refine h i ?_
  by_cases hk : i 0 = k
  · exact .inr ⟨hk, by omega⟩
  · exact .inl ⟨(Finset.mem_insert.mp hi).resolve_left hk, hk⟩

theorem gatherKV_wp (c : Dev nD) (A B : Vec F S1024x1024 .f32) (D : Finset (Fin 4)) (k : Fin 4) :
    iprop((full c kM A ∗ fullP c krM (Slots D (kvF c A))) ∗ (full c vM B ∗ fullP c vrM (Slots D (kvF c B))))
      ⊢ WP c (gatherKV c k) fun _ => iprop((full c kM A ∗ fullP c krM (Slots (insert k D) (kvF c A))) ∗ (full c vM B ∗ fullP c vrM (Slots (insert k D) (kvF c B)))) := by
  have hk (u : Fin 4) (R : sProp 𝕄) := wp_frame_on (R := R) (gatherRows_wp c kM krM A D k u)
  have hv (u : Fin 4) (R : sProp 𝕄) : iprop(R ∗ (full c vM B ∗ fullP c vrM (SlotsTo D k u.val (kvF c B)))) ⊢ WP c (gatherRows vM vrM c k u)
      fun _ => iprop(R ∗ (full c vM B ∗ fullP c vrM (SlotsTo D k (u.val + 1) (kvF c B)))) :=
    (sep_mono_right (gatherRows_wp c vM vrM B D k u)).trans (wp_frame_l _ _ _)
  unfold gatherKV
  have h := wp_seq (hk 0 _) fun _ => wp_seq (hv 0 _) fun _ => wp_seq (hk 1 _) fun _ => wp_seq (hv 1 _) fun _ =>
    wp_seq (hk 2 _) fun _ => wp_seq (hv 2 _) fun _ => wp_seq (hk 3 _) fun _ => hv 3 _
  refine BIBase.Entails.trans ?_ (h.trans (wp_mono _ _ _ fun _ => ?_))
  · iintro ⟨⟨Hk, %g, %hg, Hp⟩, Hv, %g', %hg', Hp'⟩
    isplitl [Hk Hp]
    · isplitl [Hk]; · iexact Hk
      iexists g
      isplitr [Hp]
      · ipureintro; exact slotsTo_zero k hg
      · iexact Hp
    · isplitl [Hv]; · iexact Hv
      iexists g'
      isplitr [Hp']
      · ipureintro; exact slotsTo_zero k hg'
      · iexact Hp'
  · iintro ⟨⟨Hk, %g, %hg, Hp⟩, Hv, %g', %hg', Hp'⟩
    isplitl [Hk Hp]
    · isplitl [Hk]; · iexact Hk
      iexists g
      isplitr [Hp]
      · ipureintro; exact slots_insert k hg
      · iexact Hp
    · isplitl [Hv]; · iexact Hv
      iexists g'
      isplitr [Hp']
      · ipureintro; exact slots_insert k hg'
      · iexact Hp'

/-! ## One half of a slot's weighted sums -/

/-- The columns of the first `n` heads are in place. -/
def Heads (k : Fin 4) (b : Fin 2) (n : ℕ) (P : Vec F S1x128x1152 .bf16) (g : S4x256x1152.Idx → Elt F .bf16) : Prop :=
  ∀ x : S1x128x1152.Idx, ((x 2).val < 128 * n ∨ (1024 ≤ (x 2).val ∧ (x 2).val < 1024 + n)) → g ((rPh k b).emb x) = P x

theorem emb_rPh_val (k : Fin 4) (b : Fin 2) (x : S1x128x1152.Idx) :
    (((rPh k b).emb x) 0).val = k.val ∧ (((rPh k b).emb x) 1).val = 128 * b.val + (x 1).val ∧ (((rPh k b).emb x) 2).val = (x 2).val := by
  have h0 : (x 0).val < 1 := (x 0).isLt
  refine ⟨?_, ?_, ?_⟩
  · change k.val + 1 * (x 0).val = _; omega
  · change 128 * b.val + 1 * (x 1).val = _; omega
  · change 0 + 1 * (x 2).val = _; omega

theorem emb_rPc (k : Fin 4) (b : Fin 2) (h : Fin 8) (y : Fin 1) (i j : Fin 128) :
    (rPc k b h).emb (ix3 y i j) = (rPh k b).emb (ix3 y i ⟨128 * h.val + j.val, by omega⟩) := by
  funext a
  apply Fin.ext
  match a with
  | 0 => rfl
  | 1 => rfl
  | 2 => change 128 * h.val + 1 * j.val = 0 + 1 * (128 * h.val + j.val); omega

theorem emb_rPl (k : Fin 4) (b : Fin 2) (h : Fin 8) (y : Fin 1) (i : Fin 128) (j : Fin 1) :
    (rPl k b h).emb (ix3 y i j) = (rPh k b).emb (ix3 y i ⟨1024 + h.val, by omega⟩) := by
  funext a
  apply Fin.ext
  match a with
  | 0 => rfl
  | 1 => rfl
  | 2 => change 1024 + h.val + 1 * j.val = 0 + 1 * (1024 + h.val); omega

/-- The memory that the weighted sums of a half read, with the weighted sums themselves. -/
abbrev halfRes (I : Inp F) (c : Dev nD) (D : Finset (Fin 4)) (R : sProp 𝕄) : sProp 𝕄 :=
  iprop(fullP c krM (Slots D (kvF c (I.k c))) ∗ fullP c vrM (Slots D (kvF c (I.v c))) ∗ R)

theorem loadKV_eq {D : Finset (Fin 4)} {k : Fin 4} (hk : k ∈ D) (h : Fin 8) {G g : S4x256x1024.Idx → Elt F .f32} (hg : Slots D G g) :
    (fun x => g ((rKVh k h).emb x)) = fun x => G ((rKVh k h).emb x) := by
  funext x
  refine hg _ ?_
  have h0 : (x 0).val < 1 := (x 0).isLt
  have : ((rKVh k h).emb x) 0 = k := by
    apply Fin.ext
    change k.val + 1 * (x 0).val = k.val
    omega
  rw [this]; exact hk

theorem partV_c (I : Inp F) (c : Dev nD) (k : Fin 4) (b : Fin 2) (h : Fin 8) (y : Fin 1) (i j : Fin 128) :
    partV I c k b (ix3 y i ⟨128 * h.val + j.val, by omega⟩) = cV I c k b h (ix3 0 i j) := by
  unfold partV
  have hlt : (ix3 (n0 := 1) (n1 := 128) (n2 := 1152) y i ⟨128 * h.val + j.val, by omega⟩ 2).val < 1024 := by
    change 128 * h.val + j.val < 1024; omega
  rw [dif_pos hlt]
  have e1 : (⟨(ix3 (n0 := 1) (n1 := 128) (n2 := 1152) y i ⟨128 * h.val + j.val, by omega⟩ 2).val / 128, by omega⟩ : Fin 8) = h := by
    apply Fin.ext; change (128 * h.val + j.val) / 128 = h.val; omega
  have e2 : (⟨(ix3 (n0 := 1) (n1 := 128) (n2 := 1152) y i ⟨128 * h.val + j.val, by omega⟩ 2).val % 128, by omega⟩ : Fin 128) = j := by
    apply Fin.ext; change (128 * h.val + j.val) % 128 = j.val; omega
  rw [e1, e2]
  rfl

theorem partV_l (I : Inp F) (c : Dev nD) (k : Fin 4) (b : Fin 2) (h : Fin 8) (y : Fin 1) (i : Fin 128) :
    partV I c k b (ix3 y i ⟨1024 + h.val, by omega⟩) = lPay (wV I c k b h) (ix3 0 i 0) := by
  unfold partV
  have hlt : ¬ (ix3 (n0 := 1) (n1 := 128) (n2 := 1152) y i ⟨1024 + h.val, by omega⟩ 2).val < 1024 := by
    change ¬ 1024 + h.val < 1024; omega
  have hlt' : (ix3 (n0 := 1) (n1 := 128) (n2 := 1152) y i ⟨1024 + h.val, by omega⟩ 2).val < 1032 := by
    change 1024 + h.val < 1032; omega
  rw [dif_neg hlt, dif_pos hlt']
  have e1 : (⟨(ix3 (n0 := 1) (n1 := 128) (n2 := 1152) y i ⟨1024 + h.val, by omega⟩ 2).val - 1024, by omega⟩ : Fin 8) = h := by
    apply Fin.ext; change 1024 + h.val - 1024 = h.val; omega
  rw [e1]
  rfl

theorem heads_step (I : Inp F) (c : Dev nD) (k : Fin 4) (b : Fin 2) (h : Fin 8) (g : S4x256x1152.Idx → Elt F .bf16)
    (hg : Heads k b h.val (partV I c k b) g) :
    Heads k b (h.val + 1) (partV I c k b) (put (rPl k b h) (lPay (wV I c k b h)) (put (rPc k b h) (cV I c k b h) g)) := by
  intro x hx
  obtain ⟨e0, e1, e2⟩ := emb_rPh_val k b x
  have h1 : (x 1).val < 128 := (x 1).isLt
  by_cases hl : (rPh k b).emb x ∈ (rPl k b h).set
  · obtain ⟨y, hy⟩ := (rPl k b h).exists_idx_of_mem hl
    have hy' : (rPl k b h).emb y = (rPh k b).emb x := hy
    rw [← hy', put_emb]
    rw [eq_ix3 y] at hy' ⊢
    have hy2 := (rPh k b).emb.injective ((emb_rPl k b h _ _ _).symm.trans hy')
    rw [← hy2]
    refine Eq.trans ?_ (partV_l I c k b h _ _).symm
    congr 1
    funext a
    match a with
    | 0 => exact Subsingleton.elim (α := Fin 1) _ _
    | 1 => rfl
    | 2 => exact Subsingleton.elim (α := Fin 1) _ _
  rw [put_off _ _ _ hl]
  by_cases hc : (rPh k b).emb x ∈ (rPc k b h).set
  · obtain ⟨y, hy⟩ := (rPc k b h).exists_idx_of_mem hc
    have hy' : (rPc k b h).emb y = (rPh k b).emb x := hy
    rw [← hy', put_emb]
    rw [eq_ix3 y] at hy' ⊢
    have hy2 := (rPh k b).emb.injective ((emb_rPc k b h _ _ _).symm.trans hy')
    rw [← hy2]
    refine Eq.trans ?_ (partV_c I c k b h _ _ _).symm
    congr 1
    funext a
    match a with
    | 0 => exact Subsingleton.elim (α := Fin 1) _ _
    | 1 => rfl
    | 2 => rfl
  rw [put_off _ _ _ hc]
  rw [mem_rPl] at hl
  rw [mem_rPc] at hc
  exact hg x (by omega)

theorem headStep_wp (I : Inp F) (c : Dev nD) (D : Finset (Fin 4)) (k : Fin 4) (hk : k ∈ D) (b : Fin 2) (h : Fin 8) :
    halfRes I c D iprop(∃ g, ⌜Heads k b h.val (partV I c k b) g⌝ ∗ own c partM (rPh k b).set fullShare g)
      ⊢ WP c (headStep k b (qV I c k b) h) fun _ =>
        halfRes I c D iprop(∃ g, ⌜Heads k b (h.val + 1) (partV I c k b) g⌝ ∗ own c partM (rPh k b).set fullShare g) := by
  unfold headStep
  simp only [Prog.lift, Prog.bind_op, Prog.bind_ret]
  iintro ⟨⟨%gk, %hgk, Hk⟩, ⟨%gv, %hgv, Hv⟩, %g, %hg, Hp⟩
  iapply (wp_loadO c (m := krM) (r := rKVh k h) (Finset.subset_univ _)) $$ Hk
  iintro Hk
  iapply (wp_loadO c (m := vrM) (r := rKVh k h) (Finset.subset_univ _)) $$ Hv
  iintro Hv
  iapply (wp_loadO c (m := partM) (r := rPc k b h) (rPc_sub k b h)) $$ Hp
  iintro Hp
  iapply (wp_storeO c (m := partM) (r := rPc k b h) (rPc_sub k b h)) $$ Hp
  iintro Hp
  iapply (wp_loadO c (m := partM) (r := rPl k b h) (rPl_sub k b h)) $$ Hp
  iintro Hp
  iapply (wp_storeO c (m := partM) (r := rPl k b h) (rPl_sub k b h)) $$ Hp
  iintro Hp
  simp only [wp_ret]
  imodintro
  isplitl [Hk]
  · iexists gk
    isplitr [Hk]
    · ipureintro; exact hgk
    · iexact Hk
  isplitl [Hv]
  · iexists gv
    isplitr [Hv]
    · ipureintro; exact hgv
    · iexact Hv
  iexists _
  isplitr [Hp]
  swap; · iexact Hp
  ipureintro
  rw [loadKV_eq hk h hgk, loadKV_eq hk h hgv]
  exact heads_step I c k b h g hg

theorem computeHalf_wp (I : Inp F) (c : Dev nD) (D : Finset (Fin 4)) (k : Fin 4) (hk : k ∈ D) (b : Fin 2) :
    iprop((full c xpM (xpF (I.x c)) ∗ full c wqM (I.wq c)) ∗ halfRes I c D (partAny c k b))
      ⊢ WP c (computeHalf c k b) fun _ => iprop((full c xpM (xpF (I.x c)) ∗ full c wqM (I.wq c)) ∗ halfRes I c D (partP c k b (partV I c k b))) := by
  have h8 := wp_each8 (c := c) (p := headStep (F := F) k b (qV I c k b))
    (fun n => halfRes I c D iprop(∃ g, ⌜Heads k b n (partV I c k b) g⌝ ∗ own c partM (rPh k b).set fullShare g))
    fun h => headStep_wp I c D k hk b h
  unfold computeHalf
  simp only [Prog.lift, Prog.bind_op, Prog.bind_ret]
  iintro ⟨⟨Hx, Hq⟩, Hk, Hv, Hp⟩
  iapply (wp_loadO c (m := xpM) (r := rQ c k b) (Finset.subset_univ _)) $$ Hx
  iintro Hx
  iapply (wp_loadO c (m := wqM) (r := rFull) (Finset.subset_univ _)) $$ Hq
  iintro Hq
  have hq : (fun x => I.wq c (rFull.emb x)) = I.wq c := funext fun x => congrArg (I.wq c) (emb_rFull x)
  rw [hq]
  unfold partAny
  icases Hp with ⟨%g, Hp⟩
  iapply (wp_use h8 _) $$ [Hk Hv Hp]
  · isplitl [Hk]; · iexact Hk
    isplitl [Hv]; · iexact Hv
    iexists g
    isplitr [Hp]
    · ipureintro; intro x hx; omega
    · iexact Hp
  iintro %_ ⟨Hk, Hv, %g', %hg', Hp⟩
  isplitl [Hx Hq]
  · isplitl [Hx]; · iexact Hx
    iexact Hq
  isplitl [Hk]; · iexact Hk
  isplitl [Hv]; · iexact Hv
  unfold partP
  iexists g'
  isplitr [Hp]
  · ipureintro; intro x hx; exact hg' x (by omega)
  · iexact Hp

/-! ## A received sum and the device's own -/

theorem addStep_wp (r : Memref sig .tc .vmem S3x128x1152 .bf16) (hr : r.IsWhole) (c : Dev nD) (t : Fin 3) (k : Fin 4) (b : Fin 2)
    (R P : Vec F S1x128x1152 .bf16) :
    iprop(recvP r c t R ∗ partP c k b P) ⊢ WP c (addStep r hr t k b) fun _ => iprop(recvP r c t (aPay R P) ∗ partP c k b P) := by
  unfold addStep recvP partP
  simp only [Prog.lift, Prog.bind_op, Prog.bind_ret]
  iintro ⟨⟨%g, %hg, Hr⟩, %g', %hg', Hp⟩
  iapply (wp_loadO c (m := r) (r := rR t) (Finset.Subset.refl _)) $$ Hr
  iintro Hr
  iapply (wp_loadO c (m := partM) (r := rPh k b) (Finset.Subset.refl _)) $$ Hp
  iintro Hp
  iapply (wp_loadO c (m := r) (r := rR t) (Finset.Subset.refl _)) $$ Hr
  iintro Hr
  iapply (wp_storeO c (m := r) (r := rR t) (Finset.Subset.refl _)) $$ Hr
  iintro Hr
  simp only [wp_ret]
  imodintro
  isplitl [Hr]
  · iexists _
    isplitr [Hr]
    swap; · iexact Hr
    ipureintro
    intro x hx
    exact (put_emb _ _ _ _).trans (aPay_agree hg hg' x hx)
  · iexists g'
    isplitr [Hp]
    · ipureintro; exact hg'
    · iexact Hp

/-! ## The normalised and projected half -/

theorem emb_rN (b : Fin 2) (h : Fin 8) (y : Fin 1) (i j : Fin 128) :
    (rN b h).emb (ix3 y i j) = (rG 0 b).emb (ix3 y i ⟨128 * h.val + j.val, by omega⟩) := by
  funext a
  apply Fin.ext
  match a with
  | 0 => rfl
  | 1 => rfl
  | 2 => change 128 * h.val + 1 * j.val = 0 + 1 * (128 * h.val + j.val); omega

theorem nrm_at (v : Vec F S1x128x1152 .bf16) (h : Fin 8) (y : Fin 1) (i j : Fin 128) :
    nrm v (ix3 y i ⟨128 * h.val + j.val, by omega⟩) = nPay h v (ix3 y i j) := by
  unfold nrm
  have e1 : (⟨(ix3 (n0 := 1) (n1 := 128) (n2 := 1024) y i ⟨128 * h.val + j.val, by omega⟩ 2).val / 128, by
      change (128 * h.val + j.val) / 128 < 8; omega⟩ : Fin 8) = h := by
    apply Fin.ext; change (128 * h.val + j.val) / 128 = h.val; omega
  have e2 : (⟨(ix3 (n0 := 1) (n1 := 128) (n2 := 1024) y i ⟨128 * h.val + j.val, by omega⟩ 2).val % 128, by omega⟩ : Fin 128) = j := by
    apply Fin.ext; change (128 * h.val + j.val) % 128 = j.val; omega
  rw [e1, e2]
  congr 1
  funext a
  match a with
  | 0 => exact Subsingleton.elim (α := Fin 1) _ _
  | 1 => rfl
  | 2 => rfl

theorem normHead_wp (c : Dev nD) (b : Fin 2) (v : Vec F S1x128x1152 .bf16) (h : Fin 8) :
    fullP c krM (fun g => ∀ x : S1x128x1024.Idx, (x 2).val / 128 < h.val → g ((rG 0 b).emb x) = nrm v x)
      ⊢ WP c (normHead b v h) fun _ => fullP c krM (fun g => ∀ x : S1x128x1024.Idx, (x 2).val / 128 < h.val + 1 → g ((rG 0 b).emb x) = nrm v x) := by
  unfold normHead
  simp only [Prog.lift, Prog.bind_op, Prog.bind_ret]
  iintro ⟨%g, %hg, Hp⟩
  iapply (wp_loadO c (m := krM) (r := rN b h) (Finset.subset_univ _)) $$ Hp
  iintro Hp
  iapply (wp_storeO c (m := krM) (r := rN b h) (Finset.subset_univ _)) $$ Hp
  iintro Hp
  simp only [wp_ret]
  imodintro
  iexists _
  isplitr [Hp]
  swap; · iexact Hp
  ipureintro
  intro x hx
  by_cases hc : (rG 0 b).emb x ∈ (rN b h).set
  · obtain ⟨y, hy⟩ := (rN b h).exists_idx_of_mem hc
    have hy' : (rN b h).emb y = (rG 0 b).emb x := hy
    rw [← hy', put_emb]
    rw [eq_ix3 y] at hy' ⊢
    have hy2 := (rG 0 b).emb.injective ((emb_rN b h _ _ _).symm.trans hy')
    rw [← hy2]
    exact (nrm_at v h _ _ _).symm
  rw [put_off _ _ _ hc]
  rw [mem_rN] at hc
  refine hg x ?_
  have h0 : (x 0).val < 1 := (x 0).isLt
  have h1 : (x 1).val < 128 := (x 1).isLt
  have e0 : (((rG 0 b).emb x) 0).val = 0 := by change 0 + 1 * (x 0).val = _; omega
  have e1 : (((rG 0 b).emb x) 1).val = 128 * b.val + (x 1).val := by change 128 * b.val + 1 * (x 1).val = _; omega
  have e2 : (((rG 0 b).emb x) 2).val = (x 2).val := by change 0 + 1 * (x 2).val = _; omega
  omega

/-- The last store of a projection. -/
theorem putOg_wp (c : Dev nD) (b : Fin 2) (w : Vec F S1x128x1024 .bf16) {hl : (ogM).view.LoadsAt (rG 0 b).toLoadRect} {hx : (ogM.access (rG 0 b)).Stores Finset.univ}
    {hm : (Finset.univ : Finset (rG 0 b).shape.Idx) = Finset.univ ∨ ∀ a, (rG 0 b).stride a = 1} (R : sProp 𝕄)
    (k : PUnit → Prog (TpuEff nD τ sig (Elt F) Λ₀ .tc) PUnit) (Q : PUnit → sProp 𝕄) (hk : iprop(ogP c 0 b fullShare w ∗ R) ⊢ WP c (k ⟨⟩) Q) :
    iprop(ogAny c 0 b ∗ R)
      ⊢ WP c (.op (.load ogM (rG 0 b).toLoadRect hl) fun _ => .op (.store ogM (rG 0 b) w Finset.univ hx hm) k) Q := by
  unfold ogAny
  iintro ⟨⟨%go, Ho⟩, HR⟩
  iapply (wp_loadO c (m := ogM) (r := rG 0 b) (Finset.Subset.refl _)) $$ Ho
  iintro Ho
  iapply (wp_storeO c (m := ogM) (r := rG 0 b) (Finset.Subset.refl _)) $$ Ho
  iintro Ho
  have h2 : iprop(own c ogM (rG 0 b).set fullShare (put (rG 0 b) w go)) ⊢ (ogP c 0 b fullShare w : sProp 𝕄) := by
    unfold ogP
    iintro H
    iexists (put (rG 0 b) w go)
    isplitr [H]
    · ipureintro; exact put_emb (rG 0 b) w go
    · iexact H
  iapply hk
  isplitl [Ho]
  · iapply h2 $$ Ho
  · iexact HR

theorem projHalf_wp (c : Dev nD) (r : Memref sig .tc .vmem S3x128x1152 .bf16) (b : Fin 2) (A : Vec F S1x128x1152 .bf16) (WO : Vec F S1024x1024 .f32) :
    iprop(recvP r c 2 A ∗ anyFull c krM ∗ full c woM WO ∗ ogAny c 0 b)
      ⊢ WP c (projHalf r b) fun _ => iprop(recvP r c 2 A ∗ anyFull c krM ∗ full c woM WO ∗ ogP c 0 b fullShare (gPay (nrm A) WO)) := by
  unfold projHalf recvP ogAny
  simp only [Prog.lift, Prog.bind_op, Prog.bind_ret]
  iintro ⟨⟨%ga, %hga, Hr⟩, ⟨%gk, Hk⟩, Hw, %go, Ho⟩
  iapply (wp_loadO c (m := r) (r := rR 2) (Finset.Subset.refl _)) $$ Hr
  iintro Hr
  have h8 := wp_each8 (c := c) (p := normHead (F := F) b fun x => ga ((rR 2).emb x))
    (fun n => fullP c krM (fun g => ∀ x : S1x128x1024.Idx, (x 2).val / 128 < n → g ((rG 0 b).emb x) = nrm (fun x => ga ((rR 2).emb x)) x))
    fun h => normHead_wp c b _ h
  iapply (wp_then h8 _) $$ [Hk]
  · iexists gk
    isplitr [Hk]
    · ipureintro; intro x hx; omega
    · iexact Hk
  iintro %_ ⟨%g, %hg, Hk⟩
  have hn : (fun x => g ((rG 0 b).emb x)) = nrm A := by
    rw [← nrm_agree hga]
    funext x
    exact hg x (by have := (x 2).isLt; change (x 2).val < 1024 at this; omega)
  iapply (wp_loadO c (m := krM) (r := rG 0 b) (Finset.subset_univ _)) $$ Hk
  iintro Hk
  iapply (wp_loadO c (m := woM) (r := rFull) (Finset.subset_univ _)) $$ Hw
  iintro Hw
  have hw : (fun x => WO (rFull.emb x)) = WO := funext fun x => congrArg WO (emb_rFull x)
  rw [hn, hw]
  iapply (putOg_wp c b (gPay (nrm A) WO) (iprop(recvP r c 2 A ∗ anyFull c krM ∗ full c woM WO)) _ _ ?_)
  · unfold recvP
    iintro ⟨Ho, HR, Hk, Hw⟩
    simp only [wp_ret]
    imodintro
    isplitl [HR]; · iexact HR
    isplitl [Hk]; · iexact Hk
    isplitl [Hw]; · iexact Hw
    iexact Ho
  · unfold ogAny recvP
    isplitl [Ho]; · iexists go; iexact Ho
    isplitl [Hr]
    · iexists ga
      isplitr [Hr]
      · ipureintro; exact hga
      · iexact Hr
    isplitl [Hk]; · iexists g; iexact Hk
    iexact Hw

/-! ## A slot's rows of the result -/

/-- The rows of the slots `D` of the result are in place, on device `c`. -/
def Rows (I : Inp F) (c : Dev nD) (D : Finset (Fin 4)) (g : S1024x1024.Idx → Elt F .f32) : Prop :=
  ∀ i : S1024x1024.Idx, ∀ k ∈ D, (i 0).val / 64 % 4 = (c.val + k.val) % 4 → g i = outF I i

/-- The same, with the blocks below `n` of slot `k` besides. -/
def RowsTo (I : Inp F) (c : Dev nD) (D : Finset (Fin 4)) (k : Fin 4) (n : ℕ) (g : S1024x1024.Idx → Elt F .f32) : Prop :=
  Rows I c D g ∧ ∀ i : S1024x1024.Idx, (i 0).val / 64 % 4 = (c.val + k.val) % 4 → (i 0).val / 256 < n → g i = outF I i

theorem emb_rC_val (c : Dev nD) (k u : Fin 4) (x : S64x1024.Idx) :
    (((rC c k u).emb x) 0).val = 256 * u.val + 64 * ((c.val + k.val) % 4) + (x 0).val ∧ (((rC c k u).emb x) 1).val = (x 1).val := by
  have h := emb_rC c k u (x 0) (x 1)
  have hx : x = ix2 (x 0) (x 1) := eq_ix2 x
  rw [hx]
  exact ⟨congrArg (fun i : S1024x1024.Idx => (i 0).val) h, congrArg (fun i : S1024x1024.Idx => (i 1).val) h⟩

theorem out_emb (I : Inp F) (c : Dev nD) (k u : Fin 4) (b : Fin 2) (hb : u.val / 2 = b.val) (v : Vec F S1x64x1024 .bf16)
    (hv : ∀ y : S1x64x1024.Idx, v y = oV I (rtN c k) b (ix3 0 ⟨64 * (u.val % 2) + (y 1).val, by have : (y 1).val < 64 := (y 1).isLt; omega⟩ (y 2)))
    (x : S64x1024.Idx) :
    (extf .f32 (shapeCast S64x1024 v shapeCasts_S1x64x1024_S64x1024 : FVec F S64x1024 .bf16) bitsLt_bf16_f32) x = outF I ((rC c k u).emb x) := by
  have hl : (extf .f32 (shapeCast S64x1024 v shapeCasts_S1x64x1024_S64x1024 : FVec F S64x1024 .bf16) bitsLt_bf16_f32) x
      = FloatOps.extf (F := F) (φ := .bf16) .f32 bitsLt_bf16_f32 (v (ix3 0 (x 0) (x 1))) := by pointwise []
  rw [hl, hv]
  obtain ⟨e0, e1⟩ := emb_rC_val c k u x
  have h0 : (x 0).val < 64 := (x 0).isLt
  unfold outF
  dsimp only
  have d1 : (⟨(((rC c k u).emb x) 0).val / 64 % 4, by have : nD = 4 := rfl; omega⟩ : Dev nD) = rtN c k := by
    apply Fin.ext; change (((rC c k u).emb x) 0).val / 64 % 4 = (c.val + k.val) % 4; rw [e0]; omega
  have d2 : (⟨(((rC c k u).emb x) 0).val / 512, by rw [e0]; omega⟩ : Fin 2) = b := by
    apply Fin.ext; change (((rC c k u).emb x) 0).val / 512 = b.val; rw [e0]; omega
  have d3 : (⟨64 * ((((rC c k u).emb x) 0).val / 256 % 2) + (((rC c k u).emb x) 0).val % 64, by omega⟩ : Fin 128)
      = ⟨64 * (u.val % 2) + (x 0).val, by omega⟩ := by
    apply Fin.ext
    change 64 * ((((rC c k u).emb x) 0).val / 256 % 2) + (((rC c k u).emb x) 0).val % 64 = 64 * (u.val % 2) + (x 0).val
    rw [e0]; omega
  have d4 : ((rC c k u).emb x) 1 = x 1 := Fin.ext e1
  rw [d1, d2, d3, d4]
  rfl

/-- The four blocks of slot `k`, in its two halves. -/
abbrev slotRes (I : Inp F) (c : Dev nD) (k : Fin 4) (q : PosShare TreeShare) (R : sProp 𝕄) : sProp 𝕄 :=
  iprop(ogP c k 0 q (oV I (rtN c k) 0) ∗ ogP c k 1 q (oV I (rtN c k) 1) ∗ R)

theorem storeSlot_one (I : Inp F) (c : Dev nD) (D : Finset (Fin 4)) (k u : Fin 4) (b : Fin 2) (hb : u.val / 2 = b.val) (q : PosShare TreeShare) :
    iprop(ogP c k b q (oV I (rtN c k) b) ∗ fullP c outM (RowsTo I c D k u.val))
      ⊢ WP c (storeSlot c k u) fun _ => iprop(ogP c k b q (oV I (rtN c k) b) ∗ fullP c outM (RowsTo I c D k (u.val + 1))) := by
  unfold storeSlot ogP
  simp only [Prog.lift, Prog.bind_op, Prog.bind_ret]
  iintro ⟨⟨%go, %hgo, Ho⟩, %g, %hg, Hp⟩
  iapply (wp_loadO c (m := ogM) (r := rKV k u) (rKV_sub k u b hb)) $$ Ho
  iintro Ho
  iapply (wp_loadO c (m := outM) (r := rC c k u) (Finset.subset_univ _)) $$ Hp
  iintro Hp
  iapply (wp_storeO c (m := outM) (r := rC c k u) (Finset.subset_univ _)) $$ Hp
  iintro Hp
  simp only [wp_ret]
  imodintro
  isplitl [Ho]
  · iexists go
    isplitr [Ho]
    · ipureintro; exact hgo
    · iexact Ho
  iexists _
  isplitr [Hp]
  swap; · iexact Hp
  ipureintro
  have hw : ∀ x, _ = outF I ((rC c k u).emb x) := out_emb I c k u b hb (fun y => go ((rKV k u).emb y)) fun y => by
    have h0 : (y 0).val < 1 := (y 0).isLt
    have h1 : (y 1).val < 64 := (y 1).isLt
    rw [← hgo]
    congr 1
    funext a
    apply Fin.ext
    match a with
    | 0 => change k.val + 1 * (y 0).val = k.val + 1 * 0; omega
    | 1 => change 64 * u.val + 1 * (y 1).val = 128 * b.val + 1 * (64 * (u.val % 2) + (y 1).val); omega
    | 2 => rfl
  refine ⟨fun i k' hk' hi => put_eq (G := outF I) hw fun _ => hg.1 i k' hk' hi, fun i hi hn => put_eq (G := outF I) hw fun h => hg.2 i hi ?_⟩
  rw [mem_rC] at h
  omega

theorem storeSlot_wp (I : Inp F) (c : Dev nD) (D : Finset (Fin 4)) (k : Fin 4) (q : PosShare TreeShare) :
    slotRes I c k q (fullP c outM (Rows I c D)) ⊢ WP c (each4 (storeSlot c k)) fun _ => slotRes I c k q (fullP c outM (Rows I c (insert k D))) := by
  have h := wp_each4 (c := c) (p := storeSlot (F := F) c k) (fun n => slotRes I c k q (fullP c outM (RowsTo I c D k n))) fun u => by
    have hu : u.val / 2 = 0 ∨ u.val / 2 = 1 := by omega
    rcases hu with hu | hu
    · refine BIBase.Entails.trans ?_ ((wp_frame_on (R := ogP c k 1 q (oV I (rtN c k) 1)) (storeSlot_one I c D k u 0 hu q)).trans (wp_mono _ _ _ fun _ => ?_))
      · iintro ⟨H0, H1, Ho⟩
        isplitl [H0 Ho]
        · isplitl [H0]; · iexact H0
          iexact Ho
        · iexact H1
      · iintro ⟨⟨H0, Ho⟩, H1⟩
        isplitl [H0]; · iexact H0
        isplitl [H1]; · iexact H1
        iexact Ho
    · refine BIBase.Entails.trans ?_ ((wp_frame_on (R := ogP c k 0 q (oV I (rtN c k) 0)) (storeSlot_one I c D k u 1 hu q)).trans (wp_mono _ _ _ fun _ => ?_))
      · iintro ⟨H0, H1, Ho⟩
        isplitl [H1 Ho]
        · isplitl [H1]; · iexact H1
          iexact Ho
        · iexact H0
      · iintro ⟨⟨H1, Ho⟩, H0⟩
        isplitl [H0]; · iexact H0
        isplitl [H1]; · iexact H1
        iexact Ho
  refine BIBase.Entails.trans ?_ (h.trans (wp_mono _ _ _ fun _ => ?_))
  · iintro ⟨H0, H1, %g, %hg, Ho⟩
    isplitl [H0]; · iexact H0
    isplitl [H1]; · iexact H1
    iexists g
    isplitr [Ho]
    · ipureintro; exact ⟨hg, fun i _ h => absurd h (by omega)⟩
    · iexact Ho
  · iintro ⟨H0, H1, %g, %hg, Ho⟩
    isplitl [H0]; · iexact H0
    isplitl [H1]; · iexact H1
    iexists g
    isplitr [Ho]
    · ipureintro
      intro i k' hk' hi
      rcases Finset.mem_insert.mp hk' with rfl | hk'
      · exact hg.2 i hi (by have : (i 0).val < 1024 := (i 0).isLt; omega)
      · exact hg.1 i k' hk' hi
    · iexact Ho

end Cert.KernelIdealProof
-- ==== Proof.KernelIdeal.Sched.lean ====
/-
The protocol of the body's twelve transfers and its handshake: which device each transfer goes to, what each semaphore's one
round hands over, with the contents of every landing, what each device owes at the start, and the levels of its waits.
-/
module

public import proofs.«01_k».proof.Proof.KernelIdeal.Steps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The twelve transfers: 0, 1, 2 the sums to the right, 3, 4, 5 those to the left, 6 to 11 the gather's -/

def goesRight : Fin 12 → Bool := ![true, true, true, false, false, false, true, false, true, false, false, true]
/-- Where device `c`'s transfer `j` goes, and whence the one it receives comes. -/
def dstD (c : Dev nD) (j : Fin 12) : Dev nD := if goesRight j then rt c else lt c
def srcD (c : Dev nD) (j : Fin 12) : Dev nD := if goesRight j then lt c else rt c
theorem dst_src (c : Dev nD) (j : Fin 12) : dstD (srcD c j) j = c := by
  unfold dstD srcD; split
  · exact rt_lt c
  · exact lt_rt c
theorem src_dst (c : Dev nD) (j : Fin 12) : srcD (dstD c j) j = c := by
  unfold dstD srcD; split
  · exact lt_rt c
  · exact rt_lt c

/-- The send and the receive semaphore of transfer `j`. -/
def sS : Fin 12 → DmaSem sig
  | 0 => rsS 0 0 | 1 => rsS 0 1 | 2 => rsS 0 2 | 3 => rsS 2 0 | 4 => rsS 2 1 | 5 => rsS 2 2
  | 6 => agS 0 0 | 7 => agS 0 1 | 8 => agS 0 2 | 9 => agS 0 3 | 10 => agS 0 4 | 11 => agS 0 5
def rS : Fin 12 → DmaSem sig
  | 0 => rsS 1 0 | 1 => rsS 1 1 | 2 => rsS 1 2 | 3 => rsS 3 0 | 4 => rsS 3 1 | 5 => rsS 3 2
  | 6 => agS 1 0 | 7 => agS 1 1 | 8 => agS 1 2 | 9 => agS 1 3 | 10 => agS 1 4 | 11 => agS 1 5

/-- Which end of which transfer a DMA semaphore is. -/
def dec (q : DmaSem sig) : Option (Bool × Fin 12) :=
  if q.val < 6 then none else if q.val < 9 then some (false, Fin.ofNat 12 (q.val - 6)) else if q.val < 12 then some (true, Fin.ofNat 12 (q.val - 9))
  else if q.val < 15 then some (false, Fin.ofNat 12 (q.val - 9)) else if q.val < 18 then some (true, Fin.ofNat 12 (q.val - 12))
  else if q.val < 24 then some (false, Fin.ofNat 12 (q.val - 12)) else some (true, Fin.ofNat 12 (q.val - 18))

theorem dec_sS : ∀ j, dec (sS j) = some (false, j) := by decide
theorem dec_rS : ∀ j, dec (rS j) = some (true, j) := by decide

abbrev barCell (c : Dev nD) : GSem nD τ sig := ((c : Thread nD τ), .reg barS)
abbrev sCell (c : Dev nD) (j : Fin 12) : GSem nD τ sig := ((c : Thread nD τ), .dma (sS j))
abbrev rCell (c : Dev nD) (j : Fin 12) : GSem nD τ sig := ((c : Thread nD τ), .dma (rS j))

abbrev NR : ℕ := (rsrT 0).view.dmaCredit
abbrev NG : ℕ := (ogH 0 0).view.dmaCredit
/-- The amount transfer `j` adds to its two semaphores. -/
def amt (j : Fin 12) : ℕ := if j.val < 6 then NR else NG
theorem amt_pos (j : Fin 12) : 0 < amt j := by
  unfold amt; split
  · exact View.dmaCredit_pos _ (by decide)
  · exact View.dmaCredit_pos _ (by decide)

/-! ## What the semaphores hand over -/

/-- The shares of the own projected half: one for the device's own reads, one for each of its two transfers. -/
abbrev s3 : Fin 3 → PosShare TreeShare
  | 0 => fullShare.left | 1 => fullShare.right.left | 2 => fullShare.right.right
abbrev hl : PosShare TreeShare := fullShare.left
abbrev hr : PosShare TreeShare := fullShare.right

/-- Device `n`'s landing places of the transfers to the right, and of those to the left. -/
def areaR (n : Dev nD) : sProp 𝕄 := iprop(recvAny rsrM n 0 ∗ recvAny rsrM n 1 ∗ recvAny rsrM n 2 ∗ ogAny n 3 0 ∗ ogAny n 3 1 ∗ ogAny n 2 1)
def areaL (n : Dev nD) : sProp 𝕄 := iprop(recvAny rslM n 0 ∗ recvAny rslM n 1 ∗ recvAny rslM n 2 ∗ ogAny n 1 0 ∗ ogAny n 1 1 ∗ ogAny n 2 0)

instance (n : Dev nD) : BI.Storable (upEmb : UEmb _ 𝕄) (areaR (F := F) n) := by unfold areaR; infer_instance
instance (n : Dev nD) : BI.Storable (upEmb : UEmb _ 𝕄) (areaL (F := F) n) := by unfold areaL; infer_instance

/-- What the handshake's duty `false` (the right neighbour's signal) and `true` (the left one's) hand device `c`. -/
def payB (c : Dev nD) (d : Bool) : sProp 𝕄 := if d then areaL (lt c) else areaR (rt c)
instance (c : Dev nD) (d : Bool) : BI.Storable (upEmb : UEmb _ 𝕄) (payB (F := F) c d) := by unfold payB; split <;> infer_instance

/-- The source of transfer `j`, back with its sender. -/
def payS (I : Inp F) (c : Dev nD) : Fin 12 → sProp 𝕄
  | 0 => partAny c 3 0 | 1 => recvAny rsrM c 0 | 2 => recvAny rsrM c 1
  | 3 => partAny c 1 1 | 4 => recvAny rslM c 0 | 5 => recvAny rslM c 1
  | 6 => ogP c 0 0 (s3 1) (oV I (rtN c 0) 0) | 7 => ogP c 0 0 (s3 2) (oV I (rtN c 0) 0)
  | 8 => ogP c 0 1 (s3 1) (oV I (rtN c 0) 1) | 9 => ogP c 0 1 (s3 2) (oV I (rtN c 0) 1)
  | 10 => ogP c 1 0 hr (oV I (rtN c 1) 0) | 11 => ogP c 3 1 hr (oV I (rtN c 3) 1)

/-- What transfer `j` lands on device `c`. -/
def payR (I : Inp F) (c : Dev nD) : Fin 12 → sProp 𝕄
  | 0 => recvP rsrM c 0 (R0 I c) | 1 => recvP rsrM c 1 (R1 I c) | 2 => recvP rsrM c 2 (R2 I c)
  | 3 => recvP rslM c 0 (L0 I c) | 4 => recvP rslM c 1 (L1 I c) | 5 => recvP rslM c 2 (L2 I c)
  | 6 => ogP c 3 0 fullShare (oV I (rtN c 3) 0) | 7 => ogP c 1 0 fullShare (oV I (rtN c 1) 0)
  | 8 => ogP c 3 1 fullShare (oV I (rtN c 3) 1) | 9 => ogP c 1 1 fullShare (oV I (rtN c 1) 1)
  | 10 => ogP c 2 0 fullShare (oV I (rtN c 2) 0) | 11 => ogP c 2 1 fullShare (oV I (rtN c 2) 1)

instance (I : Inp F) (c : Dev nD) (j : Fin 12) : BI.Storable (upEmb : UEmb _ 𝕄) (payS I c j) := by
  unfold payS; split <;> infer_instance
instance (I : Inp F) (c : Dev nD) (j : Fin 12) : BI.Storable (upEmb : UEmb _ 𝕄) (payR I c j) := by
  unfold payR; split <;> infer_instance

/-! ## The schedule: one round -/

def dutiesOf : SemLoc sig → Finset Bool
  | .reg s => if s = barS then Finset.univ else ∅
  | .dma q => if (dec q).isSome then {false} else ∅
def amountOf : SemLoc sig → ℕ
  | .reg _ => 1
  | .dma q => match dec q with
    | some (_, j) => amt j
    | none => 1
def payOf (I : Inp F) (c : Dev nD) (d : Bool) : SemLoc sig → sProp 𝕄
  | .reg s => if s = barS then payB c d else iprop(emp)
  | .dma q => match dec q with
    | some (false, j) => payS I c j
    | some (true, j) => payR I c j
    | none => iprop(emp)

theorem amountOf_pos (s : SemLoc sig) : 0 < amountOf s := by
  unfold amountOf
  split
  · exact Nat.one_pos
  · split
    · exact amt_pos _
    · exact Nat.one_pos

def sched (I : Inp F) : Rounds.Schedule (GSem nD τ sig) Bool 𝕄 where
  duties g r := if r = 0 ∧ g.1.2 = .tc then dutiesOf g.2 else ∅
  unitless _ := False
  amount g _ _ := amountOf g.2
  payload g _ d := payOf I g.1.1 d g.2
  amount_pos g _ _ _ := amountOf_pos _

instance (I : Inp F) (g : GSem nD τ sig) (r : ℕ) (d : Bool) : BI.Storable (upEmb : UEmb _ 𝕄) ((sched (F := F) I).payload g r d) := by
  show BI.Storable upEmb (payOf I g.1.1 d g.2)
  unfold payOf
  (repeat' split) <;> infer_instance

section
variable (I : Inp F) (c : Dev nD) (j : Fin 12)

theorem duties_bar : (sched I).duties (barCell c) 0 = Finset.univ := by
  dsimp only [sched]; rw [if_pos ⟨rfl, rfl⟩]; unfold dutiesOf; exact if_pos rfl
theorem duties_s : (sched I).duties (sCell c j) 0 = {false} := by
  dsimp only [sched]; rw [if_pos ⟨rfl, rfl⟩]; unfold dutiesOf; simp only [dec_sS]; rfl
theorem duties_r : (sched I).duties (rCell c j) 0 = {false} := by
  dsimp only [sched]; rw [if_pos ⟨rfl, rfl⟩]; unfold dutiesOf; simp only [dec_rS]; rfl
theorem duties_later (g : GSem nD τ sig) : ∀ r, 1 ≤ r → (sched I).duties g r = ∅ := fun r hr => if_neg fun h => by omega

theorem amount_s (d : Bool) : (sched I).amount (sCell c j) 0 d = amt j := by
  show amountOf (.dma (sS j)) = amt j
  unfold amountOf; simp only [dec_sS]
theorem amount_r (d : Bool) : (sched I).amount (rCell c j) 0 d = amt j := by
  show amountOf (.dma (rS j)) = amt j
  unfold amountOf; simp only [dec_rS]

theorem payload_bar (d : Bool) : (sched I).payload (barCell c) 0 d = payB c d := by
  show payOf I c d (.reg barS) = _
  unfold payOf; exact if_pos rfl
theorem payload_s (d : Bool) : (sched I).payload (sCell c j) 0 d = payS I c j := by
  show payOf I c d (.dma (sS j)) = _
  unfold payOf; simp only [dec_sS]
theorem payload_r (d : Bool) : (sched I).payload (rCell c j) 0 d = payR I c j := by
  show payOf I c d (.dma (rS j)) = _
  unfold payOf; simp only [dec_rS]

theorem expect_bar : (sched I).expect (barCell c) 0 = 2 := by
  unfold Schedule.expect Schedule.amountOf
  rw [duties_bar]; rfl
theorem expect_s : (sched I).expect (sCell c j) 0 = amt j := by
  unfold Schedule.expect Schedule.amountOf; rw [duties_s, Finset.sum_singleton, amount_s]
theorem expect_r : (sched I).expect (rCell c j) 0 = amt j := by
  unfold Schedule.expect Schedule.amountOf; rw [duties_r, Finset.sum_singleton, amount_r]

theorem rest_bar : bigSep ((sched I).duties (barCell c) 0 \ ∅) (fun d => (sched I).payload (barCell c) 0 d) = iprop(areaR (rt c) ∗ areaL (lt c)) := by
  rw [Finset.sdiff_empty, duties_bar, bigSep_univ_eq_bigSepL [false, true] (by decide) (by decide), bigSepL_cons_cons, bigSepL_singleton,
    payload_bar, payload_bar]
  rfl
theorem rest_s : bigSep ((sched I).duties (sCell c j) 0 \ ∅) (fun d => (sched I).payload (sCell c j) 0 d) = payS I c j := by
  rw [Finset.sdiff_empty, duties_s, bigSep_singleton, payload_s]
theorem rest_r : bigSep ((sched I).duties (rCell c j) 0 \ ∅) (fun d => (sched I).payload (rCell c j) 0 d) = payR I c j := by
  rw [Finset.sdiff_empty, duties_r, bigSep_singleton, payload_r]

end

/-! ## What a device owes, and the levels -/

/-- Dues as a list, the next to be paid first. -/
def Osum : List (GSem nD τ sig × ℕ) → CellTallies nD τ sig Unit
  | [] => 0
  | x :: xs => Osum xs + tallyAt x.1 () x.2

theorem Osum_pos {l : List (GSem nD τ sig × ℕ)} {g : GSem nD τ sig} {u : Unit} (h : 0 < Osum l g u) : ∃ x ∈ l, g = x.1 := by
  induction l with
  | nil => exact absurd h (Nat.lt_irrefl 0)
  | cons x xs ih =>
    rcases Pipeline.add_pos_cases h with h | h
    · obtain ⟨y, hy, e⟩ := ih h
      exact ⟨y, List.mem_cons_of_mem _ hy, e⟩
    · exact ⟨x, List.mem_cons_self, (Pipeline.tallyAt_pos h).1⟩

/-- The due of transfer `j`: its landing at the device it goes to. -/
def due (c : Dev nD) (j : Fin 12) : GSem nD τ sig × ℕ := (rCell (dstD c j) j, amt j)
/-- The transfers in the order they are begun. -/
def sends : List (Fin 12) := [0, 3, 1, 4, 2, 5, 6, 7, 8, 9, 10, 11]
/-- Everything device `c` owes at the start: the two signals and the twelve landings. -/
def dues (c : Dev nD) : List (GSem nD τ sig × ℕ) := (barCell (lt c), 1) :: (barCell (rt c), 1) :: sends.map (due c)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of the wait for transfer `j`'s landing. -/
def lvJ : Fin 12 → ℕ := ![2, 3, 4, 2, 3, 4, 5, 5, 5, 5, 6, 6]
def lvOf : SemLoc sig → ℕ
  | .reg _ => 1
  | .dma q => match dec q with
    | some (true, j) => lvJ j
    | _ => 0
def lv (g : GSem nD τ sig) (_ : Unit) : ℕ := lvOf g.2

theorem lvOf_rS (j : Fin 12) : lvOf (.dma (rS j)) = lvJ j := by unfold lvOf; simp only [dec_rS]
theorem lvJ_two : ∀ j, 2 ≤ lvJ j := by decide

theorem mayWait (c : Dev nD) (sm : SemLoc sig) (l : List (GSem nD τ sig × ℕ)) (h : ∀ x ∈ l, x.1.1.2 = .tc ∧ lvOf sm < lvOf x.1.2) :
    (levAts L lv : sProp 𝕄) ⊢ MayWait (c : Thread nD τ) sm () (Osum l) :=
  Pipeline.mayWait_of_levAts (by rw [L_tc]; exact Finset.mem_singleton_self _) fun g i hg => by
    obtain ⟨x, hx, rfl⟩ := Osum_pos hg
    refine ⟨?_, (h x hx).2⟩
    unfold L; rw [if_pos (h x hx).1]; exact Finset.mem_singleton_self _

theorem mayWait_due (c : Dev nD) (sm : SemLoc sig) (l : List (Fin 12)) (h : ∀ j ∈ l, lvOf sm < lvJ j) :
    (levAts L lv : sProp 𝕄) ⊢ MayWait (c : Thread nD τ) sm () (Osum (l.map (due c))) :=
  mayWait c sm _ fun x hx => by
    obtain ⟨j, hj, rfl⟩ := List.mem_map.mp hx
    exact ⟨rfl, by show lvOf sm < lvOf (.dma (rS j)); rw [lvOf_rS]; exact h j hj⟩

theorem mayWait_dues (c : Dev nD) (sm : SemLoc sig) (h : lvOf sm = 0) :
    (levAts L lv : sProp 𝕄) ⊢ MayWait (c : Thread nD τ) sm () (Osum (dues c)) :=
  mayWait c sm _ fun x hx => by
    rw [h]
    rcases List.mem_cons.mp hx with rfl | hx
    · exact ⟨rfl, Nat.one_pos⟩
    rcases List.mem_cons.mp hx with rfl | hx
    · exact ⟨rfl, Nat.one_pos⟩
    obtain ⟨j, hj, rfl⟩ := List.mem_map.mp hx
    exact ⟨rfl, by show 0 < lvOf (.dma (rS j)); rw [lvOf_rS]; have := lvJ_two j; omega⟩

/-! ## What one device holds of the protocol -/

/-- The names of the semaphores' invariants: the handshake's, the send ends', the receive ends'. -/
structure Names where
  b : Dev nD → ℕ
  s : Dev nD × Fin 12 → ℕ
  r : Dev nD × Fin 12 → ℕ

abbrev recB (I : Inp F) (K : Names) (c : Dev nD) : sProp 𝕄 := iprop(cellInv ER (sched I) (K.b c) (barCell c) ∗ reached ER (barCell c) 0)
abbrev recS (I : Inp F) (K : Names) (cj : Dev nD × Fin 12) : sProp 𝕄 := iprop(cellInv ER (sched I) (K.s cj) (sCell cj.1 cj.2) ∗ reached ER (sCell cj.1 cj.2) 0)
abbrev recR (I : Inp F) (K : Names) (cj : Dev nD × Fin 12) : sProp 𝕄 := iprop(cellInv ER (sched I) (K.r cj) (rCell cj.1 cj.2) ∗ reached ER (rCell cj.1 cj.2) 0)

/-- What every device knows: every semaphore's invariant, that its round is reached, and the levels. -/
def known (I : Inp F) (K : Names) : sProp 𝕄 :=
  iprop((bigSep Finset.univ (recB I K)) ∗ (bigSep Finset.univ (recS I K)) ∗ (bigSep Finset.univ (recR I K)) ∗ levAts L lv)

instance (I : Inp F) (K : Names) : BI.Persistent (known I K) := by unfold known; infer_instance

theorem one_of {A : Type} [Fintype A] [DecidableEq A] (Φ : A → sProp 𝕄) (a : A) : bigSep Finset.univ Φ ⊢ Φ a := bigSep_elim (Finset.mem_univ a)
theorem known_b (I : Inp F) (K : Names) (c : Dev nD) : known I K ⊢ recB I K c := by
  unfold known
  iintro ⟨H, -, -, -⟩
  iapply (one_of (recB I K) c) $$ H
theorem known_s (I : Inp F) (K : Names) (c : Dev nD) (j : Fin 12) : known I K ⊢ recS I K (c, j) := by
  unfold known
  iintro ⟨-, H, -, -⟩
  iapply (one_of (recS I K) (c, j)) $$ H
theorem known_r (I : Inp F) (K : Names) (c : Dev nD) (j : Fin 12) : known I K ⊢ recR I K (c, j) := by
  unfold known
  iintro ⟨-, -, H, -⟩
  iapply (one_of (recR I K) (c, j)) $$ H
theorem known_lv (I : Inp F) (K : Names) : known I K ⊢ (levAts L lv : sProp 𝕄) := by
  unfold known
  iintro ⟨-, -, -, H⟩
  iexact H

/-- What sending transfer `j` takes: both ends' tokens and the place at the own end. -/
def TX (c : Dev nD) (j : Fin 12) : sProp 𝕄 := iprop(dutyTok ER (sCell c j) 0 false ∗ dutyTok ER (rCell (dstD c j) j) 0 false ∗ atPos ER (sCell c j) 0 ∅ 0)
/-- What is left to wait for after it. -/
def SX (c : Dev nD) (j : Fin 12) : sProp 𝕄 := iprop(cred (tallyAt (sCell c j) () (amt j)) ∗ atPos ER (sCell c j) 0 ∅ 0)
/-- What receiving transfer `j` takes. -/
def RX (c : Dev nD) (j : Fin 12) : sProp 𝕄 := iprop(cred (tallyAt (rCell c j) () (amt j)) ∗ atPos ER (rCell c j) 0 ∅ 0)
/-- The two ends closed. -/
abbrev zS (c : Dev nD) (j : Fin 12) : sProp 𝕄 := semVal (sCell c j) 0
abbrev zR (c : Dev nD) (j : Fin 12) : sProp 𝕄 := semVal (rCell c j) 0
/-- What device `c` still owes. -/
def ow (c : Dev nD) (l : List (GSem nD τ sig × ℕ)) : sProp 𝕄 := iprop(∃ W, owes (c : Thread nD τ) (Osum l) W)

end Cert.KernelIdealProof
-- ==== Proof.KernelIdeal.Xfer.lean ====
/-
The rules of one transfer, one wait for a landing, one wait for a send end, and one signal.
-/
module

public import proofs.«01_k».proof.Proof.KernelIdeal.Sched

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Waits -/

theorem waitR_wp (I : Inp F) (K : Names) (c : Dev nD) (j : Fin 12) (l : List (Fin 12)) (hl : ∀ j' ∈ l, lvJ j < lvJ j') {z : Shape}
    {src dst : Memref sig .tc .vmem z .bf16} {hs : src.view.WordExact} {hd : dst.view.WordExact} {q : DmaSem sig} (hq : q = rS j) (ha : dst.view.dmaCredit = amt j) :
    iprop(known I K ∗ RX c j ∗ ow c (l.map (due c)))
      ⊢ WP c (Prog.lift (.waitDma2 q src dst hs hd)) fun _ => iprop(payR I c j ∗ zR c j ∗ ow c (l.map (due c))) := by
  subst hq
  unfold ow RX
  simp only [Prog.lift]
  iintro ⟨#HK, ⟨Hc, Hat⟩, %W, HO⟩
  ihave H := (known_r I K c j) $$ HK
  icases H with ⟨#Hi, -⟩
  iapply (Rounds.wp_wait_rest_token 𝒱₀ ER (sched I) (c : Thread nD τ) none (κ := K.r (c, j))
      (wpE_waitDma2_eq 𝒱₀ (c : Thread nD τ) none Set.univ) (Set.mem_univ _) () (O := Osum (l.map (due c))) (W := W) (R := 0) (m := 0) (T := ∅)
      (by rw [Nat.zero_add, expect_r, ha])) $$ [Hc HO Hat]
  · isplitr; · iexact Hi
    isplitl [Hc]; · rw [ha]; iexact Hc
    isplitl [HO]; · iexact HO
    isplitr
    · iapply (mayWait_due c (.dma (rS j)) l (fun j' h => by rw [lvOf_rS]; exact hl j' h))
      iapply (known_lv I K); iexact HK
    iexact Hat
  iintro ⟨HO, Hat, -, Hp⟩
  rw [wp_ret]
  imod (Rounds.cell_close ER (sched I) (Set.mem_univ (K.r (c, j))) (fun h => h) (R := 0 + 1) (duties_later I (rCell c j))) $$ [Hat] with Hz
  · isplitr; · iexact Hi
    iexact Hat
  imodintro
  isplitl [Hp]; · iapply (Entails.of_eq (rest_r I c j)) $$ Hp
  isplitl [Hz]; · iexact Hz
  iexists _; iexact HO

theorem waitS_wp (I : Inp F) (K : Names) (c : Dev nD) (j : Fin 12) {z : Shape}
    {src dst : Memref sig .tc .vmem z .bf16} {hs : src.view.WordExact} {hd : dst.view.WordExact} {q : DmaSem sig} (hq : q = sS j) (ha : dst.view.dmaCredit = amt j) :
    iprop(known I K ∗ SX c j ∗ ow c [])
      ⊢ WP c (Prog.lift (.waitDma2 q src dst hs hd)) fun _ => iprop(payS I c j ∗ zS c j ∗ ow c []) := by
  subst hq
  unfold ow SX
  rw [show Osum ([] : List (GSem nD τ sig × ℕ)) = 0 from rfl]
  simp only [Prog.lift]
  iintro ⟨#HK, ⟨Hc, Hat⟩, %W, HO⟩
  ihave H := (known_s I K c j) $$ HK
  icases H with ⟨#Hi, -⟩
  iapply (Rounds.wp_wait_rest_token 𝒱₀ ER (sched I) (c : Thread nD τ) none (κ := K.s (c, j))
      (wpE_waitDma2_eq 𝒱₀ (c : Thread nD τ) none Set.univ) (Set.mem_univ _) () (O := 0) (W := W) (R := 0) (m := 0) (T := ∅)
      (by rw [Nat.zero_add, expect_s, ha])) $$ [Hc HO Hat]
  · isplitr; · iexact Hi
    isplitl [Hc]; · rw [ha]; iexact Hc
    isplitl [HO]; · iexact HO
    isplitr
    · rw [MayWait_zero]; iempintro
    iexact Hat
  iintro ⟨HO, Hat, -, Hp⟩
  rw [wp_ret]
  imod (Rounds.cell_close ER (sched I) (Set.mem_univ (K.s (c, j))) (fun h => h) (R := 0 + 1) (duties_later I (sCell c j))) $$ [Hat] with Hz
  · isplitr; · iexact Hi
    iexact Hat
  imodintro
  isplitl [Hp]; · iapply (Entails.of_eq (rest_s I c j)) $$ Hp
  isplitl [Hz]; · iexact Hz
  iexists _; iexact HO

/-! ## One transfer -/

/-- A rectangle of a buffer, held by its values, as the end of a transfer. -/
theorem own_end {c : Dev nD} {s : Shape} {e : EltTy} {m : Memref sig .tc .vmem s e} {r : Rect s} {h : ∀ a, r.stride a = 1} {z : Shape} {hz : r.shape.Squeezes z}
    {q : PosShare TreeShare} {f : Buf (Elt F) (m.view.loc (c : Thread nD τ))} :
    (((m.slice r h).squeeze z hz).view.loc (c : Thread nD τ) ↦[((m.slice r h).squeeze z hz).view.set]{q} f : sProp 𝕄)
      = ((m.view.loc (c : Thread nD τ)) ↦[m.view.setOn r.set]{q} f) := by
  have hset : ((m.slice r h).squeeze z hz).view.set = m.view.setOn r.set := by
    show ((m.view.slice r).reshape z hz.numel_eq).set = _
    rw [View.set_reshape, View.set_slice]; rfl
  show (_ ↦[((m.slice r h).squeeze z hz).view.set]{q} f : sProp 𝕄) = _
  rw [hset]

theorem send_wp (I : Inp F) (K : Names) (c n : Dev nD) (j : Fin 12) (hn : n = dstD c j) (l : List (GSem nD τ sig × ℕ)) {s s' z : Shape}
    {m : Memref sig .tc .vmem s .bf16} {r : Rect s} {h : ∀ a, r.stride a = 1} {hz : r.shape.Squeezes z}
    {m' : Memref sig .tc .vmem s' .bf16} {r' : Rect s'} {h' : ∀ a, r'.stride a = 1} {hz' : r'.shape.Squeezes z} {qs qr : DmaSem sig}
    (hqs : qs = sS j) (hqr : qr = rS j) {hsc} {hw : ((m.slice r h).squeeze z hz).view.WordExact} {hw' : ((m'.slice r' h').squeeze z hz').view.WordExact} {hsem}
    (ha : ((m'.slice r' h').squeeze z hz').view.dmaCredit = amt j) {q : PosShare TreeShare} {g : s.Idx → Elt F .bf16} {g' : s'.Idx → Elt F .bf16}
    (hp : (own c m r.set q g : sProp 𝕄) ⊢ payS I c j)
    (hp' : ∀ g'' : s'.Idx → Elt F .bf16, (∀ y : z.Idx, g'' (r'.emb (Shape.reshapeEquiv hz'.numel_eq y)) = g (r.emb (Shape.reshapeEquiv hz.numel_eq y))) →
      (own (dstD c j) m' r'.set fullShare g'' : sProp 𝕄) ⊢ payR I (dstD c j) j) :
    iprop(known I K ∗ TX c j ∗ own c m r.set q g ∗ own (dstD c j) m' r'.set fullShare g' ∗ ow c (due c j :: l))
      ⊢ WP c (Prog.lift (.enqueueDma ((m.slice r h).squeeze z hz) (.remote (Dev.tc n : Thread nD τ) ((m'.slice r' h').squeeze z hz') (.dma qs) hsc) (.dma qr) hw hw' hsem))
          fun _ => iprop(SX c j ∗ ow c l) := by
  subst hn hqs hqr
  unfold ow TX SX
  simp only [Prog.lift]
  iintro ⟨#HK, ⟨Ht, Ht', Hat⟩, Hs, Hd, %W, HO⟩
  ihave H := (known_s I K c j) $$ HK
  icases H with ⟨#Hi, #Hr⟩
  ihave H := (known_r I K (dstD c j) j) $$ HK
  icases H with ⟨#Hi', #Hr'⟩
  unfold own
  icases Hs with ⟨%f, %hf, Hs⟩
  icases Hd with ⟨%f', %hf', Hd⟩
  have hpay₁ : (((m.slice r h).squeeze z hz).view.loc (c : Thread nD τ) ↦[((m.slice r h).squeeze z hz).view.set]{q} f : sProp 𝕄)
      ⊢ (sched I).payload (sCell c j) 0 false := by
    rw [payload_s, own_end]
    refine BIBase.Entails.trans ?_ hp
    unfold own
    iintro H
    iexists f
    isplitr [H]
    · ipureintro; exact hf
    · iexact H
  have hpay₂ : (((m'.slice r' h').squeeze z hz').view.loc (dstD c j : Thread nD τ) ↦[((m'.slice r' h').squeeze z hz').view.set]{fullShare}
        (((m'.slice r' h').squeeze z hz').view.write (Elt F) f' (((m.slice r h).squeeze z hz).view.read (Elt F) f) Finset.univ) : sProp 𝕄)
      ⊢ (sched I).payload (rCell (dstD c j) j) 0 false := by
    have h1 (y : z.Idx) := congrFun (View.read_write_univ (Val := Elt F) (v := ((m'.slice r' h').squeeze z hz').view) f' (((m.slice r h).squeeze z hz).view.read (Elt F) f)) y
    generalize (((m'.slice r' h').squeeze z hz').view.write (Elt F) f' (((m.slice r h).squeeze z hz).view.read (Elt F) f) Finset.univ) = F' at h1 ⊢
    rw [payload_r, own_end]
    refine BIBase.Entails.trans ?_ (hp' (fun i => m'.view.read (Elt F) F' i) fun y => (h1 y).trans (hf _ (r.idx_mem _)))
    unfold own
    iintro H
    iexists F'
    isplitr [H]
    · ipureintro; exact fun _ _ => rfl
    · iexact H
  iapply (Rounds.wp_send_pointsTo 𝒱₀ ER (sched I) (c : Thread nD τ) none (c' := (dstD c j : Thread nD τ)) (src := (m.slice r h).squeeze z hz)
    (dst := (m'.slice r' h').squeeze z hz') (sS := .dma (sS j)) (sem := .dma (rS j)) (κ₁ := K.s (c, j)) (κ₂ := K.r (dstD c j, j))
    (r₁ := 0) (r₂ := 0) (d₁ := false) (d₂ := false) (q := q) (fs := f) (fd := f')
    (by rw [duties_s]; exact Finset.mem_singleton_self _) (by rw [duties_r]; exact Finset.mem_singleton_self _)
    () () (amt j) ha (amount_s I c j false) (amount_r I (dstD c j) j false) (Osum l) rfl (W := W) hpay₁ hpay₂) $$ [Ht Ht' Hs Hd HO]
  · isplitr; · iexact Hi
    isplitr; · iexact Hi'
    isplitl [Hs]; · rw [own_end]; iexact Hs
    isplitl [Hd]; · rw [own_end]; iexact Hd
    isplitl [HO]; · iexact HO
    isplitl [Ht]; · iexact Ht
    isplitr; · iexact Hr
    isplitl [Ht']; · iexact Ht'
    iexact Hr'
  iintro ⟨Hc, HO⟩
  rw [wp_ret]
  imodintro
  isplitl [Hc Hat]
  · isplitl [Hc]; · iexact Hc
    iexact Hat
  iexists _; iexact HO

end Cert.KernelIdealProof
-- ==== Proof.KernelIdeal.Stage1.lean ====
/-
The transfers' rules at the buffers they move, and the first stage: the handshake and the queries' rows.
-/
module

public import proofs.«01_k».proof.Proof.KernelIdeal.Xfer

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The amounts -/

theorem cr_r (t : Fin 3) : (rsrT t).view.dmaCredit = NR := by with_unfolding_all exact rfl
theorem cr_l (t : Fin 3) : (rslT t).view.dmaCredit = NR := by with_unfolding_all exact rfl
theorem cr_p (k : Fin 4) (b : Fin 2) : (partH k b).view.dmaCredit = NR := by with_unfolding_all exact rfl
theorem cr_g (k : Fin 4) (b : Fin 2) : (ogH k b).view.dmaCredit = NG := by with_unfolding_all exact rfl

/-! ## The waits at their buffers -/

theorem waitRS_wp (I : Inp F) (K : Names) (c : Dev nD) (j : Fin 12) (l : List (Fin 12)) (hl : ∀ j' ∈ l, lvJ j < lvJ j')
    (src dst : Memref sig .tc .vmem S128x1152 .bf16) {hs : src.view.WordExact} {hd : dst.view.WordExact} {q : DmaSem sig} (hq : q = rS j) (ha : dst.view.dmaCredit = amt j) :
    iprop(known I K ∗ RX c j ∗ ow c (l.map (due c))) ⊢ WP c (waitRS q src dst hs hd) fun _ => iprop(payR I c j ∗ zR c j ∗ ow c (l.map (due c))) :=
  waitR_wp I K c j l hl hq ha
theorem waitAG_wp (I : Inp F) (K : Names) (c : Dev nD) (j : Fin 12) (l : List (Fin 12)) (hl : ∀ j' ∈ l, lvJ j < lvJ j') (k k' : Fin 4) (b : Fin 2)
    {q : DmaSem sig} (hq : q = rS j) (ha : NG = amt j) :
    iprop(known I K ∗ RX c j ∗ ow c (l.map (due c))) ⊢ WP c (waitAG q k k' b) fun _ => iprop(payR I c j ∗ zR c j ∗ ow c (l.map (due c))) :=
  waitR_wp I K c j l hl hq ((cr_g k' b).trans ha)
theorem waitRSs_wp (I : Inp F) (K : Names) (c : Dev nD) (j : Fin 12)
    (src dst : Memref sig .tc .vmem S128x1152 .bf16) {hs : src.view.WordExact} {hd : dst.view.WordExact} {q : DmaSem sig} (hq : q = sS j) (ha : dst.view.dmaCredit = amt j) :
    iprop(known I K ∗ SX c j ∗ ow c []) ⊢ WP c (waitRS q src dst hs hd) fun _ => iprop(payS I c j ∗ zS c j ∗ ow c []) :=
  waitS_wp I K c j hq ha
theorem waitAGs_wp (I : Inp F) (K : Names) (c : Dev nD) (j : Fin 12) (k k' : Fin 4) (b : Fin 2) {q : DmaSem sig} (hq : q = sS j) (ha : NG = amt j) :
    iprop(known I K ∗ SX c j ∗ ow c []) ⊢ WP c (waitAG q k k' b) fun _ => iprop(payS I c j ∗ zS c j ∗ ow c []) :=
  waitS_wp I K c j hq ((cr_g k' b).trans ha)

/-! ## The transfers at their buffers -/

theorem sendPart_wp (I : Inp F) (K : Names) (c n : Dev nD) (j : Fin 12) (hn : n = dstD c j) (l : List (GSem nD τ sig × ℕ)) (k : Fin 4) (b : Fin 2)
    (r : Memref sig .tc .vmem S3x128x1152 .bf16) {hw} {hw'} {qs qr : DmaSem sig} (hqs : qs = sS j) (hqr : qr = rS j) (P : Vec F S1x128x1152 .bf16)
    (ha : ((r.slice (rR 0) (fun _ => rfl)).squeeze S128x1152 squeezes_S1x128x1152_S128x1152).view.dmaCredit = amt j)
    (hS : partAny c k b = payS I c j) (hR : recvP r (dstD c j) 0 P = payR I (dstD c j) j) :
    iprop(known I K ∗ TX c j ∗ partP c k b P ∗ recvAny r (dstD c j) 0 ∗ ow c (due c j :: l))
      ⊢ WP c (sendRS n (partH k b) ((r.slice (rR 0) (fun _ => rfl)).squeeze S128x1152 squeezes_S1x128x1152_S128x1152) hw hw' qs qr) fun _ => iprop(SX c j ∗ ow c l) := by
  unfold partP recvAny sendRS
  iintro ⟨#HK, HT, ⟨%g, %hg, Hs⟩, ⟨%g', Hd⟩, HO⟩
  iapply (send_wp I K c n j hn l hqs hqr ha (q := fullShare) (g := g) (g' := g') ?_ ?_) $$ [HT Hs Hd HO]
  · rw [← hS]; unfold partAny
    iintro H; iexists g; iexact H
  · intro g'' he
    rw [← hR]; unfold recvP
    iintro H; iexists g''
    isplitr [H]
    · ipureintro
      intro x hx
      rw [← hg x hx]
      have hy := he ((Shape.reshapeEquiv squeezes_S1x128x1152_S128x1152.numel_eq).symm x)
      rw [Equiv.apply_symm_apply] at hy
      exact hy
    · iexact H
  · isplitr; · iexact HK
    isplitl [HT]; · iexact HT
    isplitl [Hs]; · iexact Hs
    isplitl [Hd]; · iexact Hd
    iexact HO

theorem sendRecv_wp (I : Inp F) (K : Names) (c n : Dev nD) (j : Fin 12) (hn : n = dstD c j) (l : List (GSem nD τ sig × ℕ)) (t t' : Fin 3)
    (r : Memref sig .tc .vmem S3x128x1152 .bf16) {hw} {hw'} {qs qr : DmaSem sig} (hqs : qs = sS j) (hqr : qr = rS j) (P : Vec F S1x128x1152 .bf16)
    (ha : ((r.slice (rR t') (fun _ => rfl)).squeeze S128x1152 squeezes_S1x128x1152_S128x1152).view.dmaCredit = amt j)
    (hS : recvAny r c t = payS I c j) (hR : recvP r (dstD c j) t' P = payR I (dstD c j) j) :
    iprop(known I K ∗ TX c j ∗ recvP r c t P ∗ recvAny r (dstD c j) t' ∗ ow c (due c j :: l))
      ⊢ WP c (sendRS n ((r.slice (rR t) (fun _ => rfl)).squeeze S128x1152 squeezes_S1x128x1152_S128x1152)
          ((r.slice (rR t') (fun _ => rfl)).squeeze S128x1152 squeezes_S1x128x1152_S128x1152) hw hw' qs qr) fun _ => iprop(SX c j ∗ ow c l) := by
  unfold sendRS
  have hq : recvAny (F := F) r (dstD c j) t' = iprop(∃ g, own (dstD c j) r (rR t').set fullShare g) := rfl
  have hp : recvP (F := F) r c t P = iprop(∃ g, ⌜Agree (fun x => g ((rR t).emb x)) P⌝ ∗ own c r (rR t).set fullShare g) := rfl
  rw [hq, hp]
  iintro ⟨#HK, HT, ⟨%g, %hg, Hs⟩, ⟨%g', Hd⟩, HO⟩
  iapply (send_wp I K c n j hn l hqs hqr ha (q := fullShare) (g := g) (g' := g') ?_ ?_) $$ [HT Hs Hd HO]
  · rw [← hS]; unfold recvAny
    iintro H; iexists g; iexact H
  · intro g'' he
    rw [← hR]; unfold recvP
    iintro H; iexists g''
    isplitr [H]
    · ipureintro
      intro x hx
      rw [← hg x hx]
      have hy := he ((Shape.reshapeEquiv squeezes_S1x128x1152_S128x1152.numel_eq).symm x)
      rw [Equiv.apply_symm_apply] at hy
      exact hy
    · iexact H
  · isplitr; · iexact HK
    isplitl [HT]; · iexact HT
    isplitl [Hs]; · iexact Hs
    isplitl [Hd]; · iexact Hd
    iexact HO

theorem sendOg_wp (I : Inp F) (K : Names) (c n : Dev nD) (j : Fin 12) (i : Fin 6) (hn : n = dstD c j) (l : List (GSem nD τ sig × ℕ)) (k k' : Fin 4) (b : Fin 2)
    (hqs : agS 0 i = sS j) (hqr : agS 1 i = rS j) (q : PosShare TreeShare) (w : Vec F S1x128x1024 .bf16)
    (ha : (ogH k' b).view.dmaCredit = amt j)
    (hS : ogP c k b q w = payS I c j) (hR : ogP (dstD c j) k' b fullShare w = payR I (dstD c j) j) :
    iprop(known I K ∗ TX c j ∗ ogP c k b q w ∗ ogAny (dstD c j) k' b ∗ ow c (due c j :: l))
      ⊢ WP c (sendAG n k k' b i) fun _ => iprop(SX c j ∗ ow c l) := by
  unfold sendAG
  have hq : ogAny (F := F) (dstD c j) k' b = iprop(∃ g, own (dstD c j) ogM (rG k' b).set fullShare g) := rfl
  have hp : ogP (F := F) c k b q w = iprop(∃ g, ⌜∀ x, g ((rG k b).emb x) = w x⌝ ∗ own c ogM (rG k b).set q g) := rfl
  rw [hq, hp]
  iintro ⟨#HK, HT, ⟨%g, %hg, Hs⟩, ⟨%g', Hd⟩, HO⟩
  iapply (send_wp I K c n j hn l hqs hqr ha (q := q) (g := g) (g' := g') ?_ ?_) $$ [HT Hs Hd HO]
  · rw [← hS]; unfold ogP
    iintro H; iexists g
    isplitr [H]
    · ipureintro; exact hg
    · iexact H
  · intro g'' he
    rw [← hR]; unfold ogP
    iintro H; iexists g''
    isplitr [H]
    · ipureintro
      intro x
      rw [← hg x]
      have hy := he ((Shape.reshapeEquiv squeezes_S1x128x1024_S128x1024.numel_eq).symm x)
      rw [Equiv.apply_symm_apply] at hy
      exact hy
    · iexact H
  · isplitr; · iexact HK
    isplitl [HT]; · iexact HT
    isplitl [Hs]; · iexact Hs
    isplitl [Hd]; · iexact Hd
    iexact HO

/-! ## The handshake -/

theorem dev1_eq (c : Dev nD) : (⟨k0_dev1 c, k0_dev1_lt c⟩ : Dev nD) = lt c := by revert c; decide
theorem dev2_eq (c : Dev nD) : (⟨k0_dev2 c, k0_dev2_lt c⟩ : Dev nD) = rt c := by revert c; decide

/-- What the handshake takes: the two neighbours' duties it pays, and the own semaphore's place and credit. -/
def BX (c : Dev nD) : sProp 𝕄 :=
  iprop(dutyTok ER (barCell (lt c)) 0 false ∗ dutyTok ER (barCell (rt c)) 0 true ∗ cred (tallyAt (barCell c) () 2) ∗ atPos ER (barCell c) 0 ∅ 0)

theorem payB_false (c : Dev nD) : (payB (lt c) false : sProp 𝕄) = areaR c := by
  show areaR (rt (lt c)) = _
  rw [rt_lt]
theorem payB_true (c : Dev nD) : (payB (rt c) true : sProp 𝕄) = areaL c := by
  show areaL (lt (rt c)) = _
  rw [lt_rt]

theorem stage1_wp (I : Inp F) (K : Names) (c : Dev nD) :
    iprop(known I K ∗ BX c ∗ areaR c ∗ areaL c ∗ ow c (dues c) ∗ full c xM (I.x c) ∗ anyFull c xpM)
      ⊢ WP c (stage1 c) fun _ => iprop(areaR (rt c) ∗ areaL (lt c) ∗ semVal (barCell c) 0 ∗ ow c (sends.map (due c)) ∗ full c xM (I.x c) ∗ full c xpM (xpF (I.x c))) := by
  unfold stage1 BX ow dues
  simp only [semSignalWord, semWaitWord, Prog.lift, Prog.bind_op, Prog.bind_ret, Prog.pure_eq_ret, dev1_eq, dev2_eq]
  iintro ⟨#HK, ⟨Ht, Ht', Hc, Hat⟩, HR, HL, ⟨%W, HO⟩, Hm⟩
  ihave H := (known_b I K (lt c)) $$ HK
  icases H with ⟨#Hi1, #Hr1⟩
  ihave H := (known_b I K (rt c)) $$ HK
  icases H with ⟨#Hi2, #Hr2⟩
  ihave H := (known_b I K c) $$ HK
  icases H with ⟨#Hi, #Hr⟩
  iapply (Rounds.wp_signal 𝒱₀ ER (sched I) (c : Thread nD τ) none (dst := (lt c : Thread nD τ)) (κ := K.b (lt c))
      (d := false) (by rw [duties_bar]; exact Finset.mem_univ _) (show 1 = (1#32).toNat from rfl) () (Osum ((barCell (rt c), 1) :: sends.map (due c))) rfl)
    $$ [HO Ht HR]
  · isplitr; · iexact Hi1
    isplitl [HO]; · iexact HO
    isplitl [Ht]; · iexact Ht
    isplitl [HR]
    · rw [payload_bar, payB_false]; iexact HR
    iexact Hr1
  iintro HO
  iapply (Rounds.wp_signal 𝒱₀ ER (sched I) (c : Thread nD τ) none (dst := (rt c : Thread nD τ)) (κ := K.b (rt c))
      (d := true) (by rw [duties_bar]; exact Finset.mem_univ _) (show 1 = (1#32).toNat from rfl) () (Osum (sends.map (due c))) rfl)
    $$ [HO Ht' HL]
  · isplitr; · iexact Hi2
    isplitl [HO]; · iexact HO
    isplitl [Ht']; · iexact Ht'
    isplitl [HL]
    · rw [payload_bar, payB_true]; iexact HL
    iexact Hr2
  iintro HO
  iapply (Rounds.wp_wait_rest_token 𝒱₀ ER (sched I) (c : Thread nD τ) none (κ := K.b c)
      (wpE_semWait_eq 𝒱₀ (c : Thread nD τ) none Set.univ) (Set.mem_univ _) () (O := Osum (sends.map (due c))) (W := W) (R := 0) (m := 0) (T := ∅)
      (by rw [expect_bar]; decide)) $$ [Hc HO Hat]
  · isplitr; · iexact Hi
    isplitl [Hc]; · iexact Hc
    isplitl [HO]; · iexact HO
    isplitr
    · iapply (mayWait_due c (.reg barS) sends (fun j _ => lvJ_two j))
      iapply (known_lv I K); iexact HK
    iexact Hat
  iintro ⟨HO, Hat, -, Hp⟩
  ihave Hp := (Entails.of_eq (rest_bar I c)) $$ Hp
  icases Hp with ⟨HR, HL⟩
  imod (Rounds.cell_close ER (sched I) (Set.mem_univ (K.b c)) (fun h => h) (R := 0 + 1) (duties_later I (barCell c))) $$ [Hat] with Hz
  · isplitr; · iexact Hi
    iexact Hat
  iapply (wp_use (moveAll_wp c (I.x c)) _) $$ Hm
  iintro %_ ⟨Hx, Hxp⟩
  isplitl [HR]; · iexact HR
  isplitl [HL]; · iexact HL
  isplitl [Hz]; · iexact Hz
  isplitl [HO]; · iexists _; iexact HO
  isplitl [Hx]; · iexact Hx
  iexact Hxp

end Cert.KernelIdealProof
-- ==== Proof.KernelIdeal.Stage2.lean ====
/-
The reduction's stages: the first sums computed and sent, the received ones added to and passed on, all of the device's own
sums computed.
-/
module

public import proofs.«01_k».proof.Proof.KernelIdeal.Stage1

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The buffers the attention works in, the slots `D` of the keys and values gathered. -/
def core (I : Inp F) (c : Dev nD) (D : Finset (Fin 4)) : sProp 𝕄 :=
  iprop((full c xpM (xpF (I.x c)) ∗ full c wqM (I.wq c)) ∗ (full c kM (I.k c) ∗ fullP c krM (Slots D (kvF c (I.k c))))
    ∗ (full c vM (I.v c) ∗ fullP c vrM (Slots D (kvF c (I.v c)))))

theorem gath_wp (I : Inp F) (c : Dev nD) (D : Finset (Fin 4)) (k : Fin 4) :
    core I c D ⊢ WP c (gatherKV c k) fun _ => core I c (insert k D) := by
  unfold core
  iintro ⟨Hq, H⟩
  iapply (wp_use (gatherKV_wp c (I.k c) (I.v c) D k) _) $$ H
  iintro %_ H
  isplitl [Hq]; · iexact Hq
  iexact H

theorem comp_wp (I : Inp F) (c : Dev nD) (D : Finset (Fin 4)) (k : Fin 4) (hk : k ∈ D) (b : Fin 2) :
    iprop(core I c D ∗ partAny c k b) ⊢ WP c (computeHalf c k b) fun _ => iprop(core I c D ∗ partP c k b (partV I c k b)) := by
  unfold core
  iintro ⟨⟨Hq, ⟨Hk, Hkr⟩, Hv, Hvr⟩, Hp⟩
  iapply (wp_use (computeHalf_wp I c D k hk b) _) $$ [Hq Hkr Hvr Hp]
  · unfold halfRes
    isplitl [Hq]; · iexact Hq
    isplitl [Hkr]; · iexact Hkr
    isplitl [Hvr]; · iexact Hvr
    iexact Hp
  unfold halfRes
  iintro %_ ⟨Hq, Hkr, Hvr, Hp⟩
  isplitl [Hq Hkr Hvr Hk Hv]
  · isplitl [Hq]; · iexact Hq
    isplitl [Hk Hkr]
    · isplitl [Hk]; · iexact Hk
      iexact Hkr
    isplitl [Hv]; · iexact Hv
    iexact Hvr
  iexact Hp

theorem dev3_eq (c : Dev nD) : (⟨k0_dev3 c, k0_dev3_lt c⟩ : Dev nD) = dstD c 0 := by revert c; decide
theorem dev4_eq (c : Dev nD) : (⟨k0_dev4 c, k0_dev4_lt c⟩ : Dev nD) = dstD c 3 := by revert c; decide
theorem dev5_eq (c : Dev nD) : (⟨k0_dev5 c, k0_dev5_lt c⟩ : Dev nD) = dstD c 1 := by revert c; decide
theorem dev6_eq (c : Dev nD) : (⟨k0_dev6 c, k0_dev6_lt c⟩ : Dev nD) = dstD c 4 := by revert c; decide
theorem dev7_eq (c : Dev nD) : (⟨k0_dev7 c, k0_dev7_lt c⟩ : Dev nD) = dstD c 2 := by revert c; decide
theorem dev8_eq (c : Dev nD) : (⟨k0_dev8 c, k0_dev8_lt c⟩ : Dev nD) = dstD c 5 := by revert c; decide

theorem R0_dst (I : Inp F) (c : Dev nD) : recvP rsrM (dstD c 0) 0 (partV I c 3 0) = payR I (dstD c 0) 0 := by
  show recvP rsrM (rt c) 0 _ = recvP rsrM (rt c) 0 (R0 I (rt c))
  unfold R0; rw [lt_rt]
theorem L0_dst (I : Inp F) (c : Dev nD) : recvP rslM (dstD c 3) 0 (partV I c 1 1) = payR I (dstD c 3) 3 := by
  show recvP rslM (lt c) 0 _ = recvP rslM (lt c) 0 (L0 I (lt c))
  unfold L0; rw [rt_lt]
theorem R1_dst (I : Inp F) (c : Dev nD) : recvP rsrM (dstD c 1) 1 (A0 I c) = payR I (dstD c 1) 1 := by
  show recvP rsrM (rt c) 1 _ = recvP rsrM (rt c) 1 (R1 I (rt c))
  unfold R1; rw [lt_rt]
theorem L1_dst (I : Inp F) (c : Dev nD) : recvP rslM (dstD c 4) 1 (B0 I c) = payR I (dstD c 4) 4 := by
  show recvP rslM (lt c) 1 _ = recvP rslM (lt c) 1 (L1 I (lt c))
  unfold L1; rw [rt_lt]
theorem R2_dst (I : Inp F) (c : Dev nD) : recvP rsrM (dstD c 2) 2 (A1 I c) = payR I (dstD c 2) 2 := by
  show recvP rsrM (rt c) 2 _ = recvP rsrM (rt c) 2 (R2 I (rt c))
  unfold R2; rw [lt_rt]
theorem L2_dst (I : Inp F) (c : Dev nD) : recvP rslM (dstD c 5) 2 (B1 I c) = payR I (dstD c 5) 5 := by
  show recvP rslM (lt c) 2 _ = recvP rslM (lt c) 2 (L2 I (lt c))
  unfold L2; rw [rt_lt]

/-- The slots gathered by the end of the first round. -/
abbrev D2 : Finset (Fin 4) := insert 2 (insert 1 (insert 3 ∅))

theorem stage2_wp (I : Inp F) (K : Names) (c : Dev nD) :
    iprop(known I K ∗ core I c ∅ ∗ (partAny c 3 0 ∗ partAny c 1 1 ∗ partAny c 2 0 ∗ partAny c 2 1) ∗ (TX c 0 ∗ TX c 3)
        ∗ (recvAny rsrM (dstD c 0) 0 ∗ recvAny rslM (dstD c 3) 0) ∗ ow c (sends.map (due c)))
      ⊢ WP c (stage2 c) fun _ => iprop(core I c D2 ∗ (partP c 2 0 (partV I c 2 0) ∗ partP c 2 1 (partV I c 2 1)) ∗ (SX c 0 ∗ SX c 3)
        ∗ ow c ([1, 4, 2, 5, 6, 7, 8, 9, 10, 11].map (due c))) := by
  unfold stage2
  rw [dev3_eq, dev4_eq]
  iintro ⟨#HK, Hc, ⟨Hp30, Hp11, Hp20, Hp21⟩, ⟨HT0, HT3⟩, ⟨Hr, Hl⟩, HO⟩
  iapply (wp_then (gath_wp I c ∅ 3) _) $$ Hc
  iintro %_ Hc
  iapply (wp_then (comp_wp I c (insert 3 ∅) 3 (by decide) 0) _) $$ [Hc Hp30]
  · iframe
  iintro %_ ⟨Hc, Hp30⟩
  iapply (wp_then (sendPart_wp I K c _ 0 rfl ([3, 1, 4, 2, 5, 6, 7, 8, 9, 10, 11].map (due c)) 3 0 rsrM rfl rfl _ (cr_r 0) rfl (R0_dst I c)) _) $$ [HT0 Hp30 Hr HO]
  · isplitr; · iexact HK
    isplitl [HT0]; · iexact HT0
    isplitl [Hp30]; · iexact Hp30
    isplitl [Hr]; · iexact Hr
    iexact HO
  iintro %_ ⟨HS0, HO⟩
  iapply (wp_then (gath_wp I c _ 1) _) $$ Hc
  iintro %_ Hc
  iapply (wp_then (comp_wp I c (insert 1 (insert 3 ∅)) 1 (by decide) 1) _) $$ [Hc Hp11]
  · iframe
  iintro %_ ⟨Hc, Hp11⟩
  iapply (wp_then (sendPart_wp I K c _ 3 rfl ([1, 4, 2, 5, 6, 7, 8, 9, 10, 11].map (due c)) 1 1 rslM rfl rfl _ (cr_l 0) rfl (L0_dst I c)) _) $$ [HT3 Hp11 Hl HO]
  · isplitr; · iexact HK
    isplitl [HT3]; · iexact HT3
    isplitl [Hp11]; · iexact Hp11
    isplitl [Hl]; · iexact Hl
    iexact HO
  iintro %_ ⟨HS3, HO⟩
  iapply (wp_then (gath_wp I c _ 2) _) $$ Hc
  iintro %_ Hc
  iapply (wp_then (comp_wp I c D2 2 (by decide) 0) _) $$ [Hc Hp20]
  · iframe
  iintro %_ ⟨Hc, Hp20⟩
  iapply (wp_use (comp_wp I c D2 2 (by decide) 1) _) $$ [Hc Hp21]
  · iframe
  iintro %_ ⟨Hc, Hp21⟩
  iframe

theorem add0_wp (I : Inp F) (c : Dev nD) : iprop(payR I c 0 ∗ partP c 2 0 (partV I c 2 0))
    ⊢ WP c (addStep rsrM (Memref.isWhole_whole _) 0 2 0) fun _ => iprop(recvP rsrM c 0 (A0 I c) ∗ partP c 2 0 (partV I c 2 0)) := addStep_wp rsrM _ c 0 2 0 (R0 I c) _
theorem add1_wp (I : Inp F) (c : Dev nD) : iprop(payR I c 1 ∗ partP c 1 0 (partV I c 1 0))
    ⊢ WP c (addStep rsrM (Memref.isWhole_whole _) 1 1 0) fun _ => iprop(recvP rsrM c 1 (A1 I c) ∗ partP c 1 0 (partV I c 1 0)) := addStep_wp rsrM _ c 1 1 0 (R1 I c) _
theorem add2_wp (I : Inp F) (c : Dev nD) : iprop(payR I c 2 ∗ partP c 0 0 (partV I c 0 0))
    ⊢ WP c (addStep rsrM (Memref.isWhole_whole _) 2 0 0) fun _ => iprop(recvP rsrM c 2 (A2 I c) ∗ partP c 0 0 (partV I c 0 0)) := addStep_wp rsrM _ c 2 0 0 (R2 I c) _
theorem add3_wp (I : Inp F) (c : Dev nD) : iprop(payR I c 3 ∗ partP c 2 1 (partV I c 2 1))
    ⊢ WP c (addStep rslM (Memref.isWhole_whole _) 0 2 1) fun _ => iprop(recvP rslM c 0 (B0 I c) ∗ partP c 2 1 (partV I c 2 1)) := addStep_wp rslM _ c 0 2 1 (L0 I c) _
theorem add4_wp (I : Inp F) (c : Dev nD) : iprop(payR I c 4 ∗ partP c 3 1 (partV I c 3 1))
    ⊢ WP c (addStep rslM (Memref.isWhole_whole _) 1 3 1) fun _ => iprop(recvP rslM c 1 (B1 I c) ∗ partP c 3 1 (partV I c 3 1)) := addStep_wp rslM _ c 1 3 1 (L1 I c) _
theorem add5_wp (I : Inp F) (c : Dev nD) : iprop(payR I c 5 ∗ partP c 0 1 (partV I c 0 1))
    ⊢ WP c (addStep rslM (Memref.isWhole_whole _) 2 0 1) fun _ => iprop(recvP rslM c 2 (B2 I c) ∗ partP c 0 1 (partV I c 0 1)) := addStep_wp rslM _ c 2 0 1 (L2 I c) _

theorem stage3_wp (I : Inp F) (K : Names) (c : Dev nD) :
    iprop(known I K ∗ core I c D2 ∗ (partP c 2 0 (partV I c 2 0) ∗ partP c 2 1 (partV I c 2 1) ∗ partAny c 1 0 ∗ partAny c 3 1) ∗ (RX c 0 ∗ RX c 3 ∗ TX c 1 ∗ TX c 4)
        ∗ (recvAny rsrM (dstD c 1) 1 ∗ recvAny rslM (dstD c 4) 1) ∗ ow c ([1, 4, 2, 5, 6, 7, 8, 9, 10, 11].map (due c)))
      ⊢ WP c (stage3 c) fun _ => iprop(core I c D2
        ∗ (partP c 2 0 (partV I c 2 0) ∗ partP c 2 1 (partV I c 2 1) ∗ partP c 1 0 (partV I c 1 0) ∗ partP c 3 1 (partV I c 3 1)) ∗ (SX c 1 ∗ SX c 4 ∗ zR c 0 ∗ zR c 3)
        ∗ ow c ([2, 5, 6, 7, 8, 9, 10, 11].map (due c))) := by
  unfold stage3
  rw [dev5_eq, dev6_eq]
  iintro ⟨#HK, Hc, ⟨Hp20, Hp21, Hp10, Hp31⟩, ⟨HW0, HW3, HT1, HT4⟩, ⟨Hr, Hl⟩, HO⟩
  iapply (wp_then (waitRS_wp I K c 0 [1, 4, 2, 5, 6, 7, 8, 9, 10, 11] (by decide) (partH 3 0) (rsrT 0) rfl (cr_r 0)) _) $$ [HW0 HO]
  · isplitr; · iexact HK
    isplitl [HW0]; · iexact HW0
    iexact HO
  iintro %_ ⟨HR, Hz0, HO⟩
  iapply (wp_then (add0_wp I c) _) $$ [HR Hp20]
  · isplitl [HR]; · iexact HR
    iexact Hp20
  iintro %_ ⟨HR, Hp20⟩
  iapply (wp_then (sendRecv_wp I K c _ 1 rfl ([4, 2, 5, 6, 7, 8, 9, 10, 11].map (due c)) 0 1 rsrM rfl rfl _ (cr_r 1) rfl (R1_dst I c)) _) $$ [HT1 HR Hr HO]
  · isplitr; · iexact HK
    isplitl [HT1]; · iexact HT1
    isplitl [HR]; · iexact HR
    isplitl [Hr]; · iexact Hr
    iexact HO
  iintro %_ ⟨HS1, HO⟩
  iapply (wp_then (waitRS_wp I K c 3 [4, 2, 5, 6, 7, 8, 9, 10, 11] (by decide) (partH 1 1) (rslT 0) rfl (cr_l 0)) _) $$ [HW3 HO]
  · isplitr; · iexact HK
    isplitl [HW3]; · iexact HW3
    iexact HO
  iintro %_ ⟨HL, Hz3, HO⟩
  iapply (wp_then (add3_wp I c) _) $$ [HL Hp21]
  · isplitl [HL]; · iexact HL
    iexact Hp21
  iintro %_ ⟨HL, Hp21⟩
  iapply (wp_then (sendRecv_wp I K c _ 4 rfl ([2, 5, 6, 7, 8, 9, 10, 11].map (due c)) 0 1 rslM rfl rfl _ (cr_l 1) rfl (L1_dst I c)) _) $$ [HT4 HL Hl HO]
  · isplitr; · iexact HK
    isplitl [HT4]; · iexact HT4
    isplitl [HL]; · iexact HL
    isplitl [Hl]; · iexact Hl
    iexact HO
  iintro %_ ⟨HS4, HO⟩
  iapply (wp_then (comp_wp I c D2 1 (by decide) 0) _) $$ [Hc Hp10]
  · iframe
  iintro %_ ⟨Hc, Hp10⟩
  iapply (wp_use (comp_wp I c D2 3 (by decide) 1) _) $$ [Hc Hp31]
  · iframe
  iintro %_ ⟨Hc, Hp31⟩
  iframe

/-- All slots gathered. -/
abbrev D4 : Finset (Fin 4) := insert 0 D2

theorem stage4_wp (I : Inp F) (K : Names) (c : Dev nD) :
    iprop(known I K ∗ core I c D2 ∗ (partP c 1 0 (partV I c 1 0) ∗ partP c 3 1 (partV I c 3 1) ∗ partAny c 0 0 ∗ partAny c 0 1) ∗ (RX c 1 ∗ RX c 4 ∗ TX c 2 ∗ TX c 5)
        ∗ (recvAny rsrM (dstD c 2) 2 ∗ recvAny rslM (dstD c 5) 2) ∗ ow c ([2, 5, 6, 7, 8, 9, 10, 11].map (due c)))
      ⊢ WP c (stage4 c) fun _ => iprop(core I c D4
        ∗ (partP c 1 0 (partV I c 1 0) ∗ partP c 3 1 (partV I c 3 1) ∗ partP c 0 0 (partV I c 0 0) ∗ partP c 0 1 (partV I c 0 1)) ∗ (SX c 2 ∗ SX c 5 ∗ zR c 1 ∗ zR c 4)
        ∗ ow c ([6, 7, 8, 9, 10, 11].map (due c))) := by
  unfold stage4
  rw [dev7_eq, dev8_eq]
  iintro ⟨#HK, Hc, ⟨Hp10, Hp31, Hp00, Hp01⟩, ⟨HW1, HW4, HT2, HT5⟩, ⟨Hr, Hl⟩, HO⟩
  iapply (wp_then (waitRS_wp I K c 1 [2, 5, 6, 7, 8, 9, 10, 11] (by decide) (rsrT 0) (rsrT 1) rfl (cr_r 1)) _) $$ [HW1 HO]
  · isplitr; · iexact HK
    isplitl [HW1]; · iexact HW1
    iexact HO
  iintro %_ ⟨HR, Hz1, HO⟩
  iapply (wp_then (add1_wp I c) _) $$ [HR Hp10]
  · isplitl [HR]; · iexact HR
    iexact Hp10
  iintro %_ ⟨HR, Hp10⟩
  iapply (wp_then (sendRecv_wp I K c _ 2 rfl ([5, 6, 7, 8, 9, 10, 11].map (due c)) 1 2 rsrM rfl rfl _ (cr_r 2) rfl (R2_dst I c)) _) $$ [HT2 HR Hr HO]
  · isplitr; · iexact HK
    isplitl [HT2]; · iexact HT2
    isplitl [HR]; · iexact HR
    isplitl [Hr]; · iexact Hr
    iexact HO
  iintro %_ ⟨HS2, HO⟩
  iapply (wp_then (waitRS_wp I K c 4 [5, 6, 7, 8, 9, 10, 11] (by decide) (rslT 0) (rslT 1) rfl (cr_l 1)) _) $$ [HW4 HO]
  · isplitr; · iexact HK
    isplitl [HW4]; · iexact HW4
    iexact HO
  iintro %_ ⟨HL, Hz4, HO⟩
  iapply (wp_then (add4_wp I c) _) $$ [HL Hp31]
  · isplitl [HL]; · iexact HL
    iexact Hp31
  iintro %_ ⟨HL, Hp31⟩
  iapply (wp_then (sendRecv_wp I K c _ 5 rfl ([6, 7, 8, 9, 10, 11].map (due c)) 1 2 rslM rfl rfl _ (cr_l 2) rfl (L2_dst I c)) _) $$ [HT5 HL Hl HO]
  · isplitr; · iexact HK
    isplitl [HT5]; · iexact HT5
    isplitl [HL]; · iexact HL
    isplitl [Hl]; · iexact Hl
    iexact HO
  iintro %_ ⟨HS5, HO⟩
  iapply (wp_then (gath_wp I c D2 0) _) $$ Hc
  iintro %_ Hc
  iapply (wp_then (comp_wp I c D4 0 (by decide) 0) _) $$ [Hc Hp00]
  · iframe
  iintro %_ ⟨Hc, Hp00⟩
  iapply (wp_use (comp_wp I c D4 0 (by decide) 1) _) $$ [Hc Hp01]
  · iframe
  iintro %_ ⟨Hc, Hp01⟩
  iframe

end Cert.KernelIdealProof
-- ==== Proof.KernelIdeal.Stage3.lean ====
/-
The gather's stages: the totals divided, projected and sent, the neighbours' chunks passed on, every slot stored, and the send
ends collected.
-/
module

public import proofs.«01_k».proof.Proof.KernelIdeal.Stage2

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares of a half of the gathered output -/

theorem own_share {s : Shape} {e : EltTy} (c : Dev nD) (m : Memref sig .tc .vmem s e) (S : Finset s.Idx) (q : PosShare TreeShare) (g : s.Idx → Elt F e) :
    (own c m S q g : sProp 𝕄) ⊢ iprop(own c m S q.left g ∗ own c m S q.right g) := by
  unfold own
  iintro ⟨%f, %hf, H⟩
  ihave H := (pointsTo_share (PosShare.mem_left_op_right q)).1 $$ H
  icases H with ⟨H1, H2⟩
  isplitl [H1]
  · iexists f
    isplitr [H1]
    · ipureintro; exact hf
    · iexact H1
  · iexists f
    isplitr [H2]
    · ipureintro; exact hf
    · iexact H2

theorem own_merge {s : Shape} {e : EltTy} (c : Dev nD) (m : Memref sig .tc .vmem s e) (S : Finset s.Idx) (q : PosShare TreeShare) (g g' : s.Idx → Elt F e) :
    iprop(own c m S q.left g ∗ own c m S q.right g') ⊢ (own c m S q g : sProp 𝕄) := by
  unfold own
  iintro ⟨⟨%f, %hf, H1⟩, %f', %hf', H2⟩
  ihave %ha := (pointsTo_agree) $$ [H1 H2]
  · isplitl [H1]; · iexact H1
    iexact H2
  ihave H2 := (Entails.of_eq (pointsTo_congr (g := f) fun i hi => ((ha i (Finset.mem_inter.mpr ⟨hi, hi⟩)).1).symm)) $$ H2
  ihave H := (pointsTo_share (PosShare.mem_left_op_right q)).2 $$ [H1 H2]
  · isplitl [H1]; · iexact H1
    iexact H2
  iexists f
  isplitr [H]
  · ipureintro; exact hf
  · iexact H

theorem ogP_share (c : Dev nD) (k : Fin 4) (b : Fin 2) (q : PosShare TreeShare) (w : Vec F S1x128x1024 .bf16) :
    (ogP c k b q w : sProp 𝕄) ⊢ iprop(ogP c k b q.left w ∗ ogP c k b q.right w) := by
  unfold ogP
  iintro ⟨%g, %hg, H⟩
  ihave H := (own_share c ogM _ q g) $$ H
  icases H with ⟨H1, H2⟩
  isplitl [H1]
  · iexists g
    isplitr [H1]
    · ipureintro; exact hg
    · iexact H1
  · iexists g
    isplitr [H2]
    · ipureintro; exact hg
    · iexact H2

theorem ogP_merge (c : Dev nD) (k : Fin 4) (b : Fin 2) (q : PosShare TreeShare) (w w' : Vec F S1x128x1024 .bf16) :
    iprop(ogP c k b q.left w ∗ ogP c k b q.right w') ⊢ (ogP c k b q w : sProp 𝕄) := by
  unfold ogP
  iintro ⟨⟨%g, %hg, H⟩, %g', %hg', H'⟩
  iexists g
  isplitr [H H']
  · ipureintro; exact hg
  · iapply (own_merge c ogM _ q g g')
    isplitl [H]; · iexact H
    iexact H'

/-! ## Where the gather's chunks land -/

theorem dev9_eq (c : Dev nD) : (⟨k0_dev9 c, k0_dev9_lt c⟩ : Dev nD) = dstD c 6 := by revert c; decide
theorem dev10_eq (c : Dev nD) : (⟨k0_dev10 c, k0_dev10_lt c⟩ : Dev nD) = dstD c 7 := by revert c; decide
theorem dev11_eq (c : Dev nD) : (⟨k0_dev11 c, k0_dev11_lt c⟩ : Dev nD) = dstD c 8 := by revert c; decide
theorem dev12_eq (c : Dev nD) : (⟨k0_dev12 c, k0_dev12_lt c⟩ : Dev nD) = dstD c 9 := by revert c; decide
theorem dev13_eq (c : Dev nD) : (⟨k0_dev13 c, k0_dev13_lt c⟩ : Dev nD) = dstD c 10 := by revert c; decide
theorem dev14_eq (c : Dev nD) : (⟨k0_dev14 c, k0_dev14_lt c⟩ : Dev nD) = dstD c 11 := by revert c; decide

theorem rtN_r3 (c : Dev nD) : rtN (rt c) 3 = rtN c 0 := by revert c; decide
theorem rtN_l1 (c : Dev nD) : rtN (lt c) 1 = rtN c 0 := by revert c; decide
theorem rtN_l2 (c : Dev nD) : rtN (lt c) 2 = rtN c 1 := by revert c; decide
theorem rtN_r2 (c : Dev nD) : rtN (rt c) 2 = rtN c 3 := by revert c; decide

theorem G6_dst (I : Inp F) (c : Dev nD) : ogP (dstD c 6) 3 0 fullShare (oV I (rtN c 0) 0) = payR I (dstD c 6) 6 := by
  show ogP (rt c) 3 0 fullShare _ = ogP (rt c) 3 0 fullShare (oV I (rtN (rt c) 3) 0)
  rw [rtN_r3]
theorem G7_dst (I : Inp F) (c : Dev nD) : ogP (dstD c 7) 1 0 fullShare (oV I (rtN c 0) 0) = payR I (dstD c 7) 7 := by
  show ogP (lt c) 1 0 fullShare _ = ogP (lt c) 1 0 fullShare (oV I (rtN (lt c) 1) 0)
  rw [rtN_l1]
theorem G8_dst (I : Inp F) (c : Dev nD) : ogP (dstD c 8) 3 1 fullShare (oV I (rtN c 0) 1) = payR I (dstD c 8) 8 := by
  show ogP (rt c) 3 1 fullShare _ = ogP (rt c) 3 1 fullShare (oV I (rtN (rt c) 3) 1)
  rw [rtN_r3]
theorem G9_dst (I : Inp F) (c : Dev nD) : ogP (dstD c 9) 1 1 fullShare (oV I (rtN c 0) 1) = payR I (dstD c 9) 9 := by
  show ogP (lt c) 1 1 fullShare _ = ogP (lt c) 1 1 fullShare (oV I (rtN (lt c) 1) 1)
  rw [rtN_l1]
theorem G10_dst (I : Inp F) (c : Dev nD) : ogP (dstD c 10) 2 0 fullShare (oV I (rtN c 1) 0) = payR I (dstD c 10) 10 := by
  show ogP (lt c) 2 0 fullShare _ = ogP (lt c) 2 0 fullShare (oV I (rtN (lt c) 2) 0)
  rw [rtN_l2]
theorem G11_dst (I : Inp F) (c : Dev nD) : ogP (dstD c 11) 2 1 fullShare (oV I (rtN c 3) 1) = payR I (dstD c 11) 11 := by
  show ogP (rt c) 2 1 fullShare _ = ogP (rt c) 2 1 fullShare (oV I (rtN (rt c) 2) 1)
  rw [rtN_r2]

theorem proj0_wp (I : Inp F) (c : Dev nD) : iprop(recvP rsrM c 2 (A2 I c) ∗ anyFull c krM ∗ full c woM (I.wo c) ∗ ogAny c 0 0)
    ⊢ WP c (projHalf rsrM 0) fun _ => iprop(recvP rsrM c 2 (A2 I c) ∗ anyFull c krM ∗ full c woM (I.wo c) ∗ ogP c 0 0 fullShare (oV I (rtN c 0) 0)) := by
  rw [rtN_zero]; exact projHalf_wp c rsrM 0 (A2 I c) (I.wo c)
theorem proj1_wp (I : Inp F) (c : Dev nD) : iprop(recvP rslM c 2 (B2 I c) ∗ anyFull c krM ∗ full c woM (I.wo c) ∗ ogAny c 0 1)
    ⊢ WP c (projHalf rslM 1) fun _ => iprop(recvP rslM c 2 (B2 I c) ∗ anyFull c krM ∗ full c woM (I.wo c) ∗ ogP c 0 1 fullShare (oV I (rtN c 0) 1)) := by
  rw [rtN_zero]; exact projHalf_wp c rslM 1 (B2 I c) (I.wo c)

/-! ## The totals projected and sent -/

theorem stage5_wp (I : Inp F) (K : Names) (c : Dev nD) :
    iprop(known I K ∗ (anyFull c krM ∗ full c woM (I.wo c)) ∗ (partP c 0 0 (partV I c 0 0) ∗ partP c 0 1 (partV I c 0 1) ∗ ogAny c 0 0 ∗ ogAny c 0 1)
        ∗ (RX c 2 ∗ RX c 5 ∗ TX c 6 ∗ TX c 7 ∗ TX c 8 ∗ TX c 9)
        ∗ (ogAny (dstD c 6) 3 0 ∗ ogAny (dstD c 7) 1 0 ∗ ogAny (dstD c 8) 3 1 ∗ ogAny (dstD c 9) 1 1) ∗ ow c ([6, 7, 8, 9, 10, 11].map (due c)))
      ⊢ WP c (stage5 c) fun _ => iprop((anyFull c krM ∗ full c woM (I.wo c)) ∗ (partP c 0 0 (partV I c 0 0) ∗ partP c 0 1 (partV I c 0 1))
        ∗ (recvP rsrM c 2 (A2 I c) ∗ recvP rslM c 2 (B2 I c)) ∗ (ogP c 0 0 (s3 0) (oV I (rtN c 0) 0) ∗ ogP c 0 1 (s3 0) (oV I (rtN c 0) 1))
        ∗ (zR c 2 ∗ zR c 5 ∗ SX c 6 ∗ SX c 7 ∗ SX c 8 ∗ SX c 9) ∗ ow c ([10, 11].map (due c))) := by
  unfold stage5
  rw [dev9_eq, dev10_eq, dev11_eq, dev12_eq]
  iintro ⟨#HK, ⟨Hkr, Hwo⟩, ⟨Hp00, Hp01, Hg0, Hg1⟩, ⟨HW2, HW5, HT6, HT7, HT8, HT9⟩, ⟨Hd6, Hd7, Hd8, Hd9⟩, HO⟩
  iapply (wp_then (waitRS_wp I K c 2 [6, 7, 8, 9, 10, 11] (by decide) (rsrT 1) (rsrT 2) rfl (cr_r 2)) _) $$ [HW2 HO]
  · isplitr; · iexact HK
    isplitl [HW2]; · iexact HW2
    iexact HO
  iintro %_ ⟨HR, Hz2, HO⟩
  iapply (wp_then (add2_wp I c) _) $$ [HR Hp00]
  · isplitl [HR]; · iexact HR
    iexact Hp00
  iintro %_ ⟨HR, Hp00⟩
  iapply (wp_then (waitRS_wp I K c 5 [6, 7, 8, 9, 10, 11] (by decide) (rslT 1) (rslT 2) rfl (cr_l 2)) _) $$ [HW5 HO]
  · isplitr; · iexact HK
    isplitl [HW5]; · iexact HW5
    iexact HO
  iintro %_ ⟨HL, Hz5, HO⟩
  iapply (wp_then (add5_wp I c) _) $$ [HL Hp01]
  · isplitl [HL]; · iexact HL
    iexact Hp01
  iintro %_ ⟨HL, Hp01⟩
  iapply (wp_then (proj0_wp I c) _) $$ [HR Hkr Hwo Hg0]
  · isplitl [HR]; · iexact HR
    isplitl [Hkr]; · iexact Hkr
    isplitl [Hwo]; · iexact Hwo
    iexact Hg0
  iintro %_ ⟨HR, Hkr, Hwo, Hg⟩
  ihave Hg := (ogP_share c 0 0 fullShare _) $$ Hg
  icases Hg with ⟨Hg0, Hg⟩
  ihave Hg := (ogP_share c 0 0 fullShare.right _) $$ Hg
  icases Hg with ⟨Hga, Hgb⟩
  iapply (wp_then (sendOg_wp I K c _ 6 0 rfl ([7, 8, 9, 10, 11].map (due c)) 0 3 0 rfl rfl (s3 1) _ (cr_g 3 0) rfl (G6_dst I c)) _) $$ [HT6 Hga Hd6 HO]
  · isplitr; · iexact HK
    isplitl [HT6]; · iexact HT6
    isplitl [Hga]; · iexact Hga
    isplitl [Hd6]; · iexact Hd6
    iexact HO
  iintro %_ ⟨HS6, HO⟩
  iapply (wp_then (sendOg_wp I K c _ 7 1 rfl ([8, 9, 10, 11].map (due c)) 0 1 0 rfl rfl (s3 2) _ (cr_g 1 0) rfl (G7_dst I c)) _) $$ [HT7 Hgb Hd7 HO]
  · isplitr; · iexact HK
    isplitl [HT7]; · iexact HT7
    isplitl [Hgb]; · iexact Hgb
    isplitl [Hd7]; · iexact Hd7
    iexact HO
  iintro %_ ⟨HS7, HO⟩
  iapply (wp_then (proj1_wp I c) _) $$ [HL Hkr Hwo Hg1]
  · isplitl [HL]; · iexact HL
    isplitl [Hkr]; · iexact Hkr
    isplitl [Hwo]; · iexact Hwo
    iexact Hg1
  iintro %_ ⟨HL, Hkr, Hwo, Hg⟩
  ihave Hg := (ogP_share c 0 1 fullShare _) $$ Hg
  icases Hg with ⟨Hg1, Hg⟩
  ihave Hg := (ogP_share c 0 1 fullShare.right _) $$ Hg
  icases Hg with ⟨Hga, Hgb⟩
  iapply (wp_then (sendOg_wp I K c _ 8 2 rfl ([9, 10, 11].map (due c)) 0 3 1 rfl rfl (s3 1) _ (cr_g 3 1) rfl (G8_dst I c)) _) $$ [HT8 Hga Hd8 HO]
  · isplitr; · iexact HK
    isplitl [HT8]; · iexact HT8
    isplitl [Hga]; · iexact Hga
    isplitl [Hd8]; · iexact Hd8
    iexact HO
  iintro %_ ⟨HS8, HO⟩
  iapply (wp_use (sendOg_wp I K c _ 9 3 rfl ([10, 11].map (due c)) 0 1 1 rfl rfl (s3 2) _ (cr_g 1 1) rfl (G9_dst I c)) _) $$ [HT9 Hgb Hd9 HO]
  · isplitr; · iexact HK
    isplitl [HT9]; · iexact HT9
    isplitl [Hgb]; · iexact Hgb
    isplitl [Hd9]; · iexact Hd9
    iexact HO
  iintro %_ ⟨HS9, HO⟩
  iframe

/-! ## The neighbours' chunks -/

/-- Both halves of a slot. -/
abbrev slot2 (I : Inp F) (c : Dev nD) (k : Fin 4) (q : PosShare TreeShare) : sProp 𝕄 := iprop(ogP c k 0 q (oV I (rtN c k) 0) ∗ ogP c k 1 q (oV I (rtN c k) 1))

theorem slot_wp (I : Inp F) (c : Dev nD) (D : Finset (Fin 4)) (k : Fin 4) (q : PosShare TreeShare) :
    iprop(slot2 I c k q ∗ fullP c outM (Rows I c D)) ⊢ WP c (each4 (storeSlot c k)) fun _ => iprop(slot2 I c k q ∗ fullP c outM (Rows I c (insert k D))) := by
  iintro ⟨⟨H0, H1⟩, Ho⟩
  iapply (wp_use (storeSlot_wp I c D k q) _) $$ [H0 H1 Ho]
  · isplitl [H0]; · iexact H0
    isplitl [H1]; · iexact H1
    iexact Ho
  iintro %_ ⟨H0, H1, Ho⟩
  isplitl [H0 H1]
  · isplitl [H0]; · iexact H0
    iexact H1
  iexact Ho

theorem share6 (I : Inp F) (c : Dev nD) : payR I c 6 ⊢ iprop(ogP c 3 0 hl (oV I (rtN c 3) 0) ∗ ogP c 3 0 hr (oV I (rtN c 3) 0)) := ogP_share c 3 0 fullShare _
theorem share7 (I : Inp F) (c : Dev nD) : payR I c 7 ⊢ iprop(ogP c 1 0 hl (oV I (rtN c 1) 0) ∗ ogP c 1 0 hr (oV I (rtN c 1) 0)) := ogP_share c 1 0 fullShare _
theorem share8 (I : Inp F) (c : Dev nD) : payR I c 8 ⊢ iprop(ogP c 3 1 hl (oV I (rtN c 3) 1) ∗ ogP c 3 1 hr (oV I (rtN c 3) 1)) := ogP_share c 3 1 fullShare _
theorem share9 (I : Inp F) (c : Dev nD) : payR I c 9 ⊢ iprop(ogP c 1 1 hl (oV I (rtN c 1) 1) ∗ ogP c 1 1 hr (oV I (rtN c 1) 1)) := ogP_share c 1 1 fullShare _
theorem slot2_pay (I : Inp F) (c : Dev nD) : iprop(payR I c 10 ∗ payR I c 11) ⊢ slot2 I c 2 fullShare := BIBase.Entails.rfl

/-- Every slot stored. -/
abbrev D6 : Finset (Fin 4) := insert 2 (insert 3 (insert 1 (insert 0 ∅)))

theorem stage6_wp (I : Inp F) (K : Names) (c : Dev nD) :
    iprop(known I K ∗ slot2 I c 0 (s3 0) ∗ fullP c outM (Rows I c ∅)
        ∗ (RX c 6 ∗ RX c 7 ∗ RX c 8 ∗ RX c 9 ∗ RX c 10 ∗ RX c 11) ∗ (TX c 10 ∗ TX c 11)
        ∗ (ogAny (dstD c 10) 2 0 ∗ ogAny (dstD c 11) 2 1) ∗ ow c ([10, 11].map (due c)))
      ⊢ WP c (stage6 c) fun _ => iprop((slot2 I c 0 (s3 0) ∗ slot2 I c 1 hl ∗ slot2 I c 3 hl ∗ slot2 I c 2 fullShare) ∗ fullP c outM (Rows I c D6)
        ∗ (ogP c 1 1 hr (oV I (rtN c 1) 1) ∗ ogP c 3 0 hr (oV I (rtN c 3) 0))
        ∗ (SX c 10 ∗ SX c 11) ∗ (zR c 6 ∗ zR c 7 ∗ zR c 8 ∗ zR c 9 ∗ zR c 10 ∗ zR c 11) ∗ ow c []) := by
  unfold stage6
  rw [dev13_eq, dev14_eq]
  iintro ⟨#HK, Hs0, Ho, ⟨HW6, HW7, HW8, HW9, HW10, HW11⟩, ⟨HT10, HT11⟩, ⟨Hd10, Hd11⟩, HO⟩
  iapply (wp_then (slot_wp I c ∅ 0 (s3 0)) _) $$ [Hs0 Ho]
  · isplitl [Hs0]; · iexact Hs0
    iexact Ho
  iintro %_ ⟨Hs0, Ho⟩
  iapply (wp_then (waitAG_wp I K c 6 [10, 11] (by decide) 0 3 0 rfl rfl) _) $$ [HW6 HO]
  · isplitr; · iexact HK
    isplitl [HW6]; · iexact HW6
    iexact HO
  iintro %_ ⟨H30, Hz6, HO⟩
  iapply (wp_then (waitAG_wp I K c 7 [10, 11] (by decide) 0 1 0 rfl rfl) _) $$ [HW7 HO]
  · isplitr; · iexact HK
    isplitl [HW7]; · iexact HW7
    iexact HO
  iintro %_ ⟨H10, Hz7, HO⟩
  ihave H10 := (share7 I c) $$ H10
  icases H10 with ⟨H10, Hga⟩
  iapply (wp_then (sendOg_wp I K c _ 10 4 rfl ([11].map (due c)) 1 2 0 rfl rfl hr _ (cr_g 2 0) rfl (G10_dst I c)) _) $$ [HT10 Hga Hd10 HO]
  · isplitr; · iexact HK
    isplitl [HT10]; · iexact HT10
    isplitl [Hga]; · iexact Hga
    isplitl [Hd10]; · iexact Hd10
    iexact HO
  iintro %_ ⟨HS10, HO⟩
  iapply (wp_then (waitAG_wp I K c 8 [11] (by decide) 0 3 1 rfl rfl) _) $$ [HW8 HO]
  · isplitr; · iexact HK
    isplitl [HW8]; · iexact HW8
    iexact HO
  iintro %_ ⟨H31, Hz8, HO⟩
  iapply (wp_then (waitAG_wp I K c 9 [11] (by decide) 0 1 1 rfl rfl) _) $$ [HW9 HO]
  · isplitr; · iexact HK
    isplitl [HW9]; · iexact HW9
    iexact HO
  iintro %_ ⟨H11, Hz9, HO⟩
  ihave H31 := (share8 I c) $$ H31
  icases H31 with ⟨H31, Hga⟩
  iapply (wp_then (sendOg_wp I K c _ 11 5 rfl ([].map (due c)) 3 2 1 rfl rfl hr _ (cr_g 2 1) rfl (G11_dst I c)) _) $$ [HT11 Hga Hd11 HO]
  · isplitr; · iexact HK
    isplitl [HT11]; · iexact HT11
    isplitl [Hga]; · iexact Hga
    isplitl [Hd11]; · iexact Hd11
    iexact HO
  iintro %_ ⟨HS11, HO⟩
  ihave H11 := (share9 I c) $$ H11
  icases H11 with ⟨H11, H11r⟩
  ihave H30 := (share6 I c) $$ H30
  icases H30 with ⟨H30, H30r⟩
  iapply (wp_then (slot_wp I c _ 1 hl) _) $$ [H10 H11 Ho]
  · isplitl [H10 H11]
    · isplitl [H10]; · iexact H10
      iexact H11
    iexact Ho
  iintro %_ ⟨Hs1, Ho⟩
  iapply (wp_then (slot_wp I c _ 3 hl) _) $$ [H30 H31 Ho]
  · isplitl [H30 H31]
    · isplitl [H30]; · iexact H30
      iexact H31
    iexact Ho
  iintro %_ ⟨Hs3, Ho⟩
  iapply (wp_then (waitAG_wp I K c 10 [] (by decide) 1 2 0 rfl rfl) _) $$ [HW10 HO]
  · isplitr; · iexact HK
    isplitl [HW10]; · iexact HW10
    iexact HO
  iintro %_ ⟨H20, Hz10, HO⟩
  iapply (wp_then (waitAG_wp I K c 11 [] (by decide) 3 2 1 rfl rfl) _) $$ [HW11 HO]
  · isplitr; · iexact HK
    isplitl [HW11]; · iexact HW11
    iexact HO
  iintro %_ ⟨H21, Hz11, HO⟩
  ihave Hs2 := (slot2_pay I c) $$ [H20 H21]
  · isplitl [H20]; · iexact H20
    iexact H21
  iapply (wp_use (slot_wp I c _ 2 fullShare) _) $$ [Hs2 Ho]
  · isplitl [Hs2]; · iexact Hs2
    iexact Ho
  iintro %_ ⟨Hs2, Ho⟩
  isplitl [Hs0 Hs1 Hs3 Hs2]
  · isplitl [Hs0]; · iexact Hs0
    isplitl [Hs1]; · iexact Hs1
    isplitl [Hs3]; · iexact Hs3
    iexact Hs2
  isplitl [Ho]; · iexact Ho
  isplitl [H11r H30r]
  · isplitl [H11r]; · iexact H11r
    iexact H30r
  isplitl [HS10 HS11]
  · isplitl [HS10]; · iexact HS10
    iexact HS11
  isplitl [Hz6 Hz7 Hz8 Hz9 Hz10 Hz11]
  · iframe
  iexact HO

/-! ## The send ends -/

theorem stage7_wp (I : Inp F) (K : Names) (c : Dev nD) :
    iprop(known I K ∗ (SX c 0 ∗ SX c 3 ∗ SX c 1 ∗ SX c 4 ∗ SX c 2 ∗ SX c 5 ∗ SX c 6 ∗ SX c 7 ∗ SX c 8 ∗ SX c 9 ∗ SX c 10 ∗ SX c 11) ∗ ow c [])
      ⊢ WP c stage7 fun _ => iprop((payS I c 0 ∗ payS I c 3 ∗ payS I c 1 ∗ payS I c 4 ∗ payS I c 2 ∗ payS I c 5 ∗ payS I c 6 ∗ payS I c 7 ∗ payS I c 8 ∗ payS I c 9 ∗ payS I c 10 ∗ payS I c 11)
        ∗ (zS c 0 ∗ zS c 3 ∗ zS c 1 ∗ zS c 4 ∗ zS c 2 ∗ zS c 5 ∗ zS c 6 ∗ zS c 7 ∗ zS c 8 ∗ zS c 9 ∗ zS c 10 ∗ zS c 11) ∗ ow c []) := by
  unfold stage7
  iintro ⟨#HK, ⟨H0, H3, H1, H4, H2, H5, H6, H7, H8, H9, H10, H11⟩, HO⟩
  iapply (wp_then (waitRSs_wp I K c 0 (rsrT 0) (partH 3 0) rfl (cr_p 3 0)) _) $$ [H0 HO]
  · isplitr; · iexact HK
    isplitl [H0]; · iexact H0
    iexact HO
  iintro %_ ⟨H0, Hz0, HO⟩
  iapply (wp_then (waitRSs_wp I K c 3 (rslT 0) (partH 1 1) rfl (cr_p 1 1)) _) $$ [H3 HO]
  · isplitr; · iexact HK
    isplitl [H3]; · iexact H3
    iexact HO
  iintro %_ ⟨H3, Hz3, HO⟩
  iapply (wp_then (waitRSs_wp I K c 1 (rsrT 1) (rsrT 0) rfl (cr_r 0)) _) $$ [H1 HO]
  · isplitr; · iexact HK
    isplitl [H1]; · iexact H1
    iexact HO
  iintro %_ ⟨H1, Hz1, HO⟩
  iapply (wp_then (waitRSs_wp I K c 4 (rslT 1) (rslT 0) rfl (cr_l 0)) _) $$ [H4 HO]
  · isplitr; · iexact HK
    isplitl [H4]; · iexact H4
    iexact HO
  iintro %_ ⟨H4, Hz4, HO⟩
  iapply (wp_then (waitRSs_wp I K c 2 (rsrT 2) (rsrT 1) rfl (cr_r 1)) _) $$ [H2 HO]
  · isplitr; · iexact HK
    isplitl [H2]; · iexact H2
    iexact HO
  iintro %_ ⟨H2, Hz2, HO⟩
  iapply (wp_then (waitRSs_wp I K c 5 (rslT 2) (rslT 1) rfl (cr_l 1)) _) $$ [H5 HO]
  · isplitr; · iexact HK
    isplitl [H5]; · iexact H5
    iexact HO
  iintro %_ ⟨H5, Hz5, HO⟩
  iapply (wp_then (waitAGs_wp I K c 6 3 0 0 rfl rfl) _) $$ [H6 HO]
  · isplitr; · iexact HK
    isplitl [H6]; · iexact H6
    iexact HO
  iintro %_ ⟨H6, Hz6, HO⟩
  iapply (wp_then (waitAGs_wp I K c 7 1 0 0 rfl rfl) _) $$ [H7 HO]
  · isplitr; · iexact HK
    isplitl [H7]; · iexact H7
    iexact HO
  iintro %_ ⟨H7, Hz7, HO⟩
  iapply (wp_then (waitAGs_wp I K c 8 3 0 1 rfl rfl) _) $$ [H8 HO]
  · isplitr; · iexact HK
    isplitl [H8]; · iexact H8
    iexact HO
  iintro %_ ⟨H8, Hz8, HO⟩
  iapply (wp_then (waitAGs_wp I K c 9 1 0 1 rfl rfl) _) $$ [H9 HO]
  · isplitr; · iexact HK
    isplitl [H9]; · iexact H9
    iexact HO
  iintro %_ ⟨H9, Hz9, HO⟩
  iapply (wp_then (waitAGs_wp I K c 10 2 1 0 rfl rfl) _) $$ [H10 HO]
  · isplitr; · iexact HK
    isplitl [H10]; · iexact H10
    iexact HO
  iintro %_ ⟨H10, Hz10, HO⟩
  iapply (wp_use (waitAGs_wp I K c 11 2 3 1 rfl rfl) _) $$ [H11 HO]
  · isplitr; · iexact HK
    isplitl [H11]; · iexact H11
    iexact HO
  iintro %_ ⟨H11, Hz11, HO⟩
  iframe

end Cert.KernelIdealProof
-- ==== Proof.KernelIdeal.Split.lean ====
/-
A buffer held whole is held piece by piece, and the other way round.
-/
module

public import proofs.«01_k».proof.Proof.KernelIdeal.Stage3
public import Idealize.ShloMosaic.Lib.Ring

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {s : Shape} {e : EltTy} {B : Type} [Fintype B] [DecidableEq B] (c : Dev nD) (m : Memref sig .tc .vmem s e) (I : B → Finset s.Idx)
  (hd : ∀ b b' i, i ∈ I b → i ∈ I b' → b = b') (hc : ∀ i, ∃ b, i ∈ I b)

include hd in
theorem setOn_disjoint (b b' : B) (h : b ≠ b') : Disjoint (m.view.setOn (I b)) (m.view.setOn (I b')) := by
  unfold View.setOn
  rw [Finset.disjoint_map, Finset.disjoint_left]
  exact fun i hi hi' => h (hd b b' i hi hi')
/-- The elements under the view, as elements of device `c`'s buffer. -/
abbrev under (S : Finset s.Idx) : Finset (Idx (m.view.loc (c : Thread nD τ))) := m.view.setOn S
include hc in
theorem setOn_cover : Finset.univ.biUnion (fun b => under c m (I b)) = under c m Finset.univ := by
  apply Finset.ext
  intro x
  rw [Finset.mem_biUnion]
  constructor
  · rintro ⟨b, -, h⟩
    obtain ⟨i, -, rfl⟩ := Finset.mem_map.mp h
    exact Finset.mem_map.mpr ⟨i, Finset.mem_univ _, rfl⟩
  · intro h
    obtain ⟨i, -, rfl⟩ := Finset.mem_map.mp h
    obtain ⟨b, hb⟩ := hc i
    exact ⟨b, Finset.mem_univ _, Finset.mem_map.mpr ⟨i, hb, rfl⟩⟩

/-- The elements of one piece, at contents not named. -/
abbrev piece (b : B) : sProp 𝕄 := iprop(∃ f : Buf (Elt F) (m.view.loc (c : Thread nD τ)), (m.view.loc (c : Thread nD τ)) ↦[m.view.setOn (I b)]{fullShare} f)

theorem piece_intro (b : B) (f : Buf (Elt F) (m.view.loc (c : Thread nD τ))) :
    ((m.view.loc (c : Thread nD τ)) ↦[m.view.setOn (I b)]{fullShare} f : sProp 𝕄) ⊢ iprop(∃ g, own c m (I b) fullShare g) := by
  unfold own
  iintro H
  iexists (m.view.read (Elt F) f)
  iexists f
  isplitr [H]
  · ipureintro; exact fun _ _ => rfl
  · iexact H
theorem piece_elim (b : B) : (iprop(∃ g, own c m (I b) fullShare g) : sProp 𝕄) ⊢ piece c m I b := by
  unfold own
  iintro ⟨%g, %f, -, H⟩
  iexists f; iexact H

include hd hc in
theorem any_split : (anyFull c m : sProp 𝕄) ⊢ bigSep Finset.univ fun b => iprop(∃ g, own c m (I b) fullShare g) := by
  have h (f : Buf (Elt F) (m.view.loc (c : Thread nD τ))) : ((m.view.loc (c : Thread nD τ)) ↦[m.view.setOn Finset.univ]{fullShare} f : sProp 𝕄)
      ⊢ bigSep Finset.univ fun b => iprop(∃ g, own c m (I b) fullShare g) := by
    rw [Ring.pointsTo_sub_blocks (fun b => under c m (I b)) (setOn_disjoint m I hd) (under c m Finset.univ) (setOn_cover c m I hc) f]
    exact bigSep_mono fun b _ => piece_intro c m I b f
  unfold anyFull full
  rw [show own c m Finset.univ fullShare = fun g : s.Idx → Elt F e => (own c m Finset.univ fullShare g : sProp 𝕄) from rfl]
  unfold own at *
  iintro ⟨%g, %f, -, H⟩
  iapply (h f) $$ H

include hd hc in
theorem any_join (f₀ : Buf (Elt F) (m.view.loc (c : Thread nD τ))) :
    (bigSep Finset.univ fun b => iprop(∃ g, own c m (I b) fullShare g)) ⊢ (anyFull c m : sProp 𝕄) := by
  have h : (bigSep Finset.univ fun b => piece c m I b) ⊢ (iprop(∃ f, (m.view.loc (c : Thread nD τ)) ↦[m.view.setOn Finset.univ]{fullShare} f) : sProp 𝕄) :=
    Ring.pointsTo_sub_blocks_join_exists (fun b => under c m (I b)) (setOn_disjoint m I hd) (under c m Finset.univ) (setOn_cover c m I hc) f₀
  refine (bigSep_mono fun b _ => piece_elim c m I b).trans (h.trans ?_)
  iintro ⟨%f, H⟩
  iapply (piece_intro c m (fun _ : Unit => Finset.univ) () f) $$ H

end

/-! ## The buffers of the transfers -/

theorem ph_disj (b b' : Fin 4 × Fin 2) (i : S4x256x1152.Idx) (h : i ∈ (rPh b.1 b.2).set) (h' : i ∈ (rPh b'.1 b'.2).set) : b = b' := by
  rw [mem_rPh] at h h'
  exact Prod.ext (Fin.ext (h.1.symm.trans h'.1)) (Fin.ext (h.2.symm.trans h'.2))
theorem ph_cover (i : S4x256x1152.Idx) : ∃ b : Fin 4 × Fin 2, i ∈ (rPh b.1 b.2).set :=
  ⟨(⟨(i 0).val, (i 0).isLt⟩, ⟨(i 1).val / 128, by have : (i 1).val < 256 := (i 1).isLt; omega⟩), (mem_rPh _ _ i).2 ⟨rfl, rfl⟩⟩
theorem g_disj (b b' : Fin 4 × Fin 2) (i : S4x256x1024.Idx) (h : i ∈ (rG b.1 b.2).set) (h' : i ∈ (rG b'.1 b'.2).set) : b = b' := by
  rw [mem_rG] at h h'
  exact Prod.ext (Fin.ext (h.1.symm.trans h'.1)) (Fin.ext (h.2.symm.trans h'.2))
theorem g_cover (i : S4x256x1024.Idx) : ∃ b : Fin 4 × Fin 2, i ∈ (rG b.1 b.2).set :=
  ⟨(⟨(i 0).val, (i 0).isLt⟩, ⟨(i 1).val / 128, by have : (i 1).val < 256 := (i 1).isLt; omega⟩), (mem_rG _ _ i).2 ⟨rfl, rfl⟩⟩
theorem r_disj (b b' : Fin 3) (i : S3x128x1152.Idx) (h : i ∈ (rR b).set) (h' : i ∈ (rR b').set) : b = b' := by
  rw [mem_rR] at h h'
  exact Fin.ext (h.symm.trans h')
theorem r_cover (i : S3x128x1152.Idx) : ∃ b : Fin 3, i ∈ (rR b).set := ⟨⟨(i 0).val, (i 0).isLt⟩, (mem_rR _ i).2 rfl⟩

theorem sep_halves (Φ : Fin 4 × Fin 2 → sProp 𝕄) : bigSep Finset.univ Φ
    = iprop(Φ (3, 0) ∗ Φ (1, 1) ∗ Φ (2, 0) ∗ Φ (2, 1) ∗ Φ (1, 0) ∗ Φ (3, 1) ∗ Φ (0, 0) ∗ Φ (0, 1)) :=
  bigSep_univ_eq_bigSepL [(3, 0), (1, 1), (2, 0), (2, 1), (1, 0), (3, 1), (0, 0), (0, 1)] (by decide) (by decide) Φ
theorem sep_slots (Φ : Fin 3 → sProp 𝕄) : bigSep Finset.univ Φ = iprop(Φ 0 ∗ Φ 1 ∗ Φ 2) :=
  bigSep_univ_eq_bigSepL [0, 1, 2] (by decide) (by decide) Φ

abbrev partAll (c : Dev nD) : sProp 𝕄 :=
  iprop(partAny c 3 0 ∗ partAny c 1 1 ∗ partAny c 2 0 ∗ partAny c 2 1 ∗ partAny c 1 0 ∗ partAny c 3 1 ∗ partAny c 0 0 ∗ partAny c 0 1)
abbrev ogAll (c : Dev nD) : sProp 𝕄 :=
  iprop(ogAny c 3 0 ∗ ogAny c 1 1 ∗ ogAny c 2 0 ∗ ogAny c 2 1 ∗ ogAny c 1 0 ∗ ogAny c 3 1 ∗ ogAny c 0 0 ∗ ogAny c 0 1)
abbrev recvAll (r : Memref sig .tc .vmem S3x128x1152 .bf16) (c : Dev nD) : sProp 𝕄 := iprop(recvAny r c 0 ∗ recvAny r c 1 ∗ recvAny r c 2)

abbrev z16 : Elt F .bf16 := FloatOps.ofBits (F := F) .bf16 0

theorem part_split (c : Dev nD) : anyFull c partM ⊢ (partAll c : sProp 𝕄) :=
  (any_split c partM (fun b : Fin 4 × Fin 2 => (rPh b.1 b.2).set) ph_disj ph_cover).trans (Entails.of_eq (sep_halves _))
theorem part_join (c : Dev nD) : (partAll c : sProp 𝕄) ⊢ anyFull c partM :=
  (Entails.of_eq (sep_halves (fun b : Fin 4 × Fin 2 => partAny c b.1 b.2)).symm).trans (any_join c partM (fun b : Fin 4 × Fin 2 => (rPh b.1 b.2).set) ph_disj ph_cover fun _ => (z16 : Elt F .bf16))
theorem og_split (c : Dev nD) : anyFull c ogM ⊢ (ogAll c : sProp 𝕄) :=
  (any_split c ogM (fun b : Fin 4 × Fin 2 => (rG b.1 b.2).set) g_disj g_cover).trans (Entails.of_eq (sep_halves _))
theorem og_join (c : Dev nD) : (ogAll c : sProp 𝕄) ⊢ anyFull c ogM :=
  (Entails.of_eq (sep_halves (fun b : Fin 4 × Fin 2 => ogAny c b.1 b.2)).symm).trans (any_join c ogM (fun b : Fin 4 × Fin 2 => (rG b.1 b.2).set) g_disj g_cover fun _ => (z16 : Elt F .bf16))
theorem rsr_split (c : Dev nD) : anyFull c rsrM ⊢ (recvAll rsrM c : sProp 𝕄) :=
  (any_split c rsrM (fun b : Fin 3 => (rR b).set) r_disj r_cover).trans (Entails.of_eq (sep_slots _))
theorem rsr_join (c : Dev nD) : (recvAll rsrM c : sProp 𝕄) ⊢ anyFull c rsrM :=
  (Entails.of_eq (sep_slots (fun b => recvAny rsrM c b)).symm).trans (any_join c rsrM (fun b : Fin 3 => (rR b).set) r_disj r_cover fun _ => (z16 : Elt F .bf16))
theorem rsl_split (c : Dev nD) : anyFull c rslM ⊢ (recvAll rslM c : sProp 𝕄) :=
  (any_split c rslM (fun b : Fin 3 => (rR b).set) r_disj r_cover).trans (Entails.of_eq (sep_slots _))
theorem rsl_join (c : Dev nD) : (recvAll rslM c : sProp 𝕄) ⊢ anyFull c rslM :=
  (Entails.of_eq (sep_slots (fun b => recvAny rslM c b)).symm).trans (any_join c rslM (fun b : Fin 3 => (rR b).set) r_disj r_cover fun _ => (z16 : Elt F .bf16))

end Cert.KernelIdealProof
-- ==== Proof.KernelIdeal.Whole.lean ====
/-
The whole body at device `c`: from its blocks, its scratch and its part of the protocol to its block of the result, everything
else back and every semaphore at zero.
-/
module

public import proofs.«01_k».proof.Proof.KernelIdeal.Split

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The input blocks, held. -/
def ins (I : Inp F) (c : Dev nD) : sProp 𝕄 :=
  iprop(full c xM (I.x c) ∗ full c wqM (I.wq c) ∗ full c kM (I.k c) ∗ full c vM (I.v c) ∗ full c woM (I.wo c))
/-- The scratch buffers, contents not named. -/
def scr (c : Dev nD) : sProp 𝕄 :=
  iprop(anyFull (F := F) c xpM ∗ anyFull (F := F) c krM ∗ anyFull (F := F) c vrM ∗ anyFull (F := F) c partM ∗ anyFull (F := F) c rsrM ∗ anyFull (F := F) c rslM ∗ anyFull (F := F) c ogM)
/-- What the transfers take. -/
def sendsX (c : Dev nD) : sProp 𝕄 := iprop(TX c 0 ∗ TX c 1 ∗ TX c 2 ∗ TX c 3 ∗ TX c 4 ∗ TX c 5 ∗ TX c 6 ∗ TX c 7 ∗ TX c 8 ∗ TX c 9 ∗ TX c 10 ∗ TX c 11)
def recvsX (c : Dev nD) : sProp 𝕄 := iprop(RX c 0 ∗ RX c 1 ∗ RX c 2 ∗ RX c 3 ∗ RX c 4 ∗ RX c 5 ∗ RX c 6 ∗ RX c 7 ∗ RX c 8 ∗ RX c 9 ∗ RX c 10 ∗ RX c 11)
/-- Every semaphore at zero. -/
def endS (c : Dev nD) : sProp 𝕄 := iprop(zS c 0 ∗ zS c 1 ∗ zS c 2 ∗ zS c 3 ∗ zS c 4 ∗ zS c 5 ∗ zS c 6 ∗ zS c 7 ∗ zS c 8 ∗ zS c 9 ∗ zS c 10 ∗ zS c 11)
def endR (c : Dev nD) : sProp 𝕄 := iprop(zR c 0 ∗ zR c 1 ∗ zR c 2 ∗ zR c 3 ∗ zR c 4 ∗ zR c 5 ∗ zR c 6 ∗ zR c 7 ∗ zR c 8 ∗ zR c 9 ∗ zR c 10 ∗ zR c 11)

/-! ## Dealing the buffers to the handshake and the stages -/

theorem deal (c : Dev nD) : iprop(anyFull (F := F) c partM ∗ anyFull (F := F) c rsrM ∗ anyFull (F := F) c rslM ∗ anyFull (F := F) c ogM)
    ⊢ iprop(areaR c ∗ areaL c ∗ partAll c ∗ ogAny c 0 0 ∗ ogAny c 0 1) := by
  unfold areaR areaL
  iintro ⟨Hp, Hr, Hl, Hg⟩
  ihave Hp := (part_split c) $$ Hp
  ihave Hr := (rsr_split c) $$ Hr
  ihave Hl := (rsl_split c) $$ Hl
  ihave Hg := (og_split c) $$ Hg
  icases Hr with ⟨Hr0, Hr1, Hr2⟩
  icases Hl with ⟨Hl0, Hl1, Hl2⟩
  icases Hg with ⟨G30, G11, G20, G21, G10, G31, G00, G01⟩
  isplitl [Hr0 Hr1 Hr2 G30 G31 G21]
  · iframe
  isplitl [Hl0 Hl1 Hl2 G10 G11 G20]
  · iframe
  isplitl [Hp]; · iexact Hp
  isplitl [G00]; · iexact G00
  iexact G01

theorem areaR_dst (c : Dev nD) : areaR (F := F) (rt c) ⊢ iprop(recvAny rsrM (dstD c 0) 0 ∗ recvAny rsrM (dstD c 1) 1 ∗ recvAny rsrM (dstD c 2) 2
    ∗ ogAny (dstD c 6) 3 0 ∗ ogAny (dstD c 8) 3 1 ∗ ogAny (dstD c 11) 2 1) := BIBase.Entails.rfl
theorem areaL_dst (c : Dev nD) : areaL (F := F) (lt c) ⊢ iprop(recvAny rslM (dstD c 3) 0 ∗ recvAny rslM (dstD c 4) 1 ∗ recvAny rslM (dstD c 5) 2
    ∗ ogAny (dstD c 7) 1 0 ∗ ogAny (dstD c 9) 1 1 ∗ ogAny (dstD c 10) 2 0) := BIBase.Entails.rfl

/-- The send ends' buffers by name. -/
theorem payS_names (I : Inp F) (c : Dev nD) :
    iprop(payS I c 0 ∗ payS I c 3 ∗ payS I c 1 ∗ payS I c 4 ∗ payS I c 2 ∗ payS I c 5 ∗ payS I c 6 ∗ payS I c 7 ∗ payS I c 8 ∗ payS I c 9 ∗ payS I c 10 ∗ payS I c 11)
      ⊢ iprop(partAny c 3 0 ∗ partAny c 1 1 ∗ recvAny rsrM c 0 ∗ recvAny rslM c 0 ∗ recvAny rsrM c 1 ∗ recvAny rslM c 1
        ∗ ogP c 0 0 (s3 1) (oV I (rtN c 0) 0) ∗ ogP c 0 0 (s3 2) (oV I (rtN c 0) 0) ∗ ogP c 0 1 (s3 1) (oV I (rtN c 0) 1) ∗ ogP c 0 1 (s3 2) (oV I (rtN c 0) 1)
        ∗ ogP c 1 0 hr (oV I (rtN c 1) 0) ∗ ogP c 3 1 hr (oV I (rtN c 3) 1)) := BIBase.Entails.rfl

theorem og_two (c : Dev nD) (k : Fin 4) (b : Fin 2) (w : Vec F S1x128x1024 .bf16) : iprop(ogP c k b hl w ∗ ogP c k b hr w) ⊢ (ogAny c k b : sProp 𝕄) :=
  (ogP_merge c k b fullShare w w).trans (ogP_any c k b w)
theorem og_three (c : Dev nD) (k : Fin 4) (b : Fin 2) (w : Vec F S1x128x1024 .bf16) :
    iprop(ogP c k b (s3 0) w ∗ ogP c k b (s3 1) w ∗ ogP c k b (s3 2) w) ⊢ (ogAny c k b : sProp 𝕄) := by
  iintro ⟨H0, H1, H2⟩
  ihave H := (ogP_merge c k b fullShare.right w w) $$ [H1 H2]
  · isplitl [H1]; · iexact H1
    iexact H2
  iapply (og_two c k b w)
  isplitl [H0]; · iexact H0
  iexact H

theorem core_intro (I : Inp F) (c : Dev nD) :
    iprop(full c xpM (xpF (I.x c)) ∗ full c wqM (I.wq c) ∗ full c kM (I.k c) ∗ full c vM (I.v c) ∗ anyFull c krM ∗ anyFull c vrM) ⊢ core I c ∅ := by
  unfold core
  iintro ⟨Hx, Hq, Hk, Hv, ⟨%g, Hkr⟩, %g', Hvr⟩
  isplitl [Hx Hq]
  · isplitl [Hx]; · iexact Hx
    iexact Hq
  isplitl [Hk Hkr]
  · isplitl [Hk]; · iexact Hk
    iexists g
    isplitr [Hkr]
    · ipureintro; exact fun _ h => absurd h (Finset.notMem_empty _)
    · iexact Hkr
  · isplitl [Hv]; · iexact Hv
    iexists g'
    isplitr [Hvr]
    · ipureintro; exact fun _ h => absurd h (Finset.notMem_empty _)
    · iexact Hvr

theorem core_elim (I : Inp F) (c : Dev nD) (D : Finset (Fin 4)) : core I c D
    ⊢ iprop(anyFull c xpM ∗ full c wqM (I.wq c) ∗ full c kM (I.k c) ∗ full c vM (I.v c) ∗ anyFull c krM ∗ anyFull c vrM) := by
  unfold core
  iintro ⟨⟨Hx, Hq⟩, ⟨Hk, %g, -, Hkr⟩, Hv, %g', -, Hvr⟩
  isplitl [Hx]; · iexists _; iexact Hx
  isplitl [Hq]; · iexact Hq
  isplitl [Hk]; · iexact Hk
  isplitl [Hv]; · iexact Hv
  isplitl [Hkr]; · iexists g; iexact Hkr
  iexists g'; iexact Hvr

theorem rows_none (I : Inp F) (c : Dev nD) : anyFull c outM ⊢ fullP c outM (Rows I c ∅) := by
  iintro ⟨%g, H⟩
  iexists g
  isplitr [H]
  · ipureintro; exact fun _ _ h => absurd h (Finset.notMem_empty _)
  · iexact H
theorem rows_all (I : Inp F) (c : Dev nD) : fullP c outM (Rows I c D6) ⊢ full c outM (outF I) := by
  iintro ⟨%g, %hg, H⟩
  iapply (own_congr (m := outM) fun i _ => ?_) $$ H
  have h4 : c.val < 4 := c.isLt
  exact hg i ⟨((i 0).val / 64 % 4 + 4 - c.val) % 4, by omega⟩ ((show ∀ k : Fin 4, k ∈ D6 by decide) _) (by
    show (i 0).val / 64 % 4 = (c.val + ((i 0).val / 64 % 4 + 4 - c.val) % 4) % 4
    omega)

/-! ## The body -/

theorem body_wp (I : Inp F) (K : Names) (c : Dev nD) :
    iprop(known I K ∗ (BX c ∗ sendsX c ∗ recvsX c) ∗ ins I c ∗ anyFull c outM ∗ scr c ∗ ow c (dues c))
      ⊢ WP c body fun _ => iprop(ins I c ∗ full c outM (outF I) ∗ scr c ∗ (semVal (barCell c) 0 ∗ endS c ∗ endR c) ∗ ow c []) := by
  unfold body ins scr sendsX recvsX endS endR
  simp only [Prog.lift, Prog.bind_op, Prog.bind_ret, wp_deviceId]
  iintro ⟨#HK, ⟨HB, ⟨T0, T1, T2, T3, T4, T5, T6, T7, T8, T9, T10, T11⟩, ⟨W0, W1, W2, W3, W4, W5, W6, W7, W8, W9, W10, W11⟩⟩, ⟨Hx, Hwq, Hk, Hv, Hwo⟩, Hout, ⟨Hxp, Hkr, Hvr, Hpart, Hrsr, Hrsl, Hog⟩, HO⟩
  ihave Hd := (deal c) $$ [Hpart Hrsr Hrsl Hog]
  · iframe
  icases Hd with ⟨HaR, HaL, ⟨P30, P11, P20, P21, P10, P31, P00, P01⟩, G00, G01⟩
  iapply (wp_then (stage1_wp I K c) _) $$ [HB HaR HaL HO Hx Hxp]
  · isplitr; · iexact HK
    isplitl [HB]; · iexact HB
    isplitl [HaR]; · iexact HaR
    isplitl [HaL]; · iexact HaL
    isplitl [HO]; · iexact HO
    isplitl [Hx]; · iexact Hx
    iexact Hxp
  iintro %_ ⟨HaR, HaL, Hzb, HO, Hx, Hxp⟩
  ihave HaR := (areaR_dst c) $$ HaR
  ihave HaL := (areaL_dst c) $$ HaL
  icases HaR with ⟨D0, D1, D2, D6, D8, D11⟩
  icases HaL with ⟨D3, D4, D5, D7, D9, D10⟩
  ihave Hc := (core_intro I c) $$ [Hxp Hwq Hk Hv Hkr Hvr]
  · iframe
  iapply (wp_then (stage2_wp I K c) _) $$ [Hc P30 P11 P20 P21 T0 T3 D0 D3 HO]
  · isplitr; · iexact HK
    iframe
  iintro %_ ⟨Hc, ⟨P20, P21⟩, ⟨S0, S3⟩, HO⟩
  iapply (wp_then (stage3_wp I K c) _) $$ [Hc P20 P21 P10 P31 W0 W3 T1 T4 D1 D4 HO]
  · isplitr; · iexact HK
    iframe
  iintro %_ ⟨Hc, ⟨P20, P21, P10, P31⟩, ⟨S1, S4, Z0, Z3⟩, HO⟩
  ihave P20 := (partP_any c 2 0 _) $$ P20
  ihave P21 := (partP_any c 2 1 _) $$ P21
  iapply (wp_then (stage4_wp I K c) _) $$ [Hc P10 P31 P00 P01 W1 W4 T2 T5 D2 D5 HO]
  · isplitr; · iexact HK
    iframe
  iintro %_ ⟨Hc, ⟨P10, P31, P00, P01⟩, ⟨S2, S5, Z1, Z4⟩, HO⟩
  ihave P10 := (partP_any c 1 0 _) $$ P10
  ihave P31 := (partP_any c 3 1 _) $$ P31
  ihave Hc := (core_elim I c _) $$ Hc
  icases Hc with ⟨Hxp, Hwq, Hk, Hv, Hkr, Hvr⟩
  iapply (wp_then (stage5_wp I K c) _) $$ [Hkr Hwo P00 P01 G00 G01 W2 W5 T6 T7 T8 T9 D6 D7 D8 D9 HO]
  · isplitr; · iexact HK
    iframe
  iintro %_ ⟨⟨Hkr, Hwo⟩, ⟨P00, P01⟩, ⟨R2, L2⟩, ⟨G00, G01⟩, ⟨Z2, Z5, S6, S7, S8, S9⟩, HO⟩
  ihave P00 := (partP_any c 0 0 _) $$ P00
  ihave P01 := (partP_any c 0 1 _) $$ P01
  ihave R2 := (recvP_any rsrM c 2 _) $$ R2
  ihave L2 := (recvP_any rslM c 2 _) $$ L2
  ihave Hout := (rows_none I c) $$ Hout
  iapply (wp_then (stage6_wp I K c) _) $$ [G00 G01 Hout W6 W7 W8 W9 W10 W11 T10 T11 D10 D11 HO]
  · isplitr; · iexact HK
    isplitl [G00 G01]
    · isplitl [G00]; · iexact G00
      iexact G01
    isplitl [Hout]; · iexact Hout
    isplitl [W6 W7 W8 W9 W10 W11]
    · iframe
    isplitl [T10 T11]
    · iframe
    isplitl [D10 D11]
    · iframe
    iexact HO
  iintro %_ ⟨⟨⟨G00, G01⟩, ⟨G10, G11⟩, ⟨G30, G31⟩, G20, G21⟩, Hout, ⟨G11r, G30r⟩, ⟨S10, S11⟩, ⟨Z6, Z7, Z8, Z9, Z10, Z11⟩, HO⟩
  ihave Hout := (rows_all I c) $$ Hout
  iapply (wp_use (stage7_wp I K c) _) $$ [S0 S3 S1 S4 S2 S5 S6 S7 S8 S9 S10 S11 HO]
  · isplitr; · iexact HK
    isplitl [S0 S3 S1 S4 S2 S5 S6 S7 S8 S9 S10 S11]
    · iframe
    iexact HO
  iintro %_ ⟨Hp, ⟨Y0, Y3, Y1, Y4, Y2, Y5, Y6, Y7, Y8, Y9, Y10, Y11⟩, HO⟩
  ihave Hp := (payS_names I c) $$ Hp
  icases Hp with ⟨P30, P11, R0, L0, R1, L1, A6, A7, A8, A9, A10, A11⟩
  ihave G00 := (og_three c 0 0 _) $$ [G00 A6 A7]
  · iframe
  ihave G01 := (og_three c 0 1 _) $$ [G01 A8 A9]
  · iframe
  ihave G10 := (og_two c 1 0 _) $$ [G10 A10]
  · iframe
  ihave G11 := (og_two c 1 1 _) $$ [G11 G11r]
  · iframe
  ihave G30 := (og_two c 3 0 _) $$ [G30 G30r]
  · iframe
  ihave G31 := (og_two c 3 1 _) $$ [G31 A11]
  · iframe
  ihave G20 := (ogP_any c 2 0 _) $$ G20
  ihave G21 := (ogP_any c 2 1 _) $$ G21
  ihave Hpart := (part_join c) $$ [P30 P11 P20 P21 P10 P31 P00 P01]
  · isplitl [P30]; · iexact P30
    isplitl [P11]; · iexact P11
    isplitl [P20]; · iexact P20
    isplitl [P21]; · iexact P21
    isplitl [P10]; · iexact P10
    isplitl [P31]; · iexact P31
    isplitl [P00]; · iexact P00
    iexact P01
  ihave Hrsr := (rsr_join c) $$ [R0 R1 R2]
  · isplitl [R0]; · iexact R0
    isplitl [R1]; · iexact R1
    iexact R2
  ihave Hrsl := (rsl_join c) $$ [L0 L1 L2]
  · isplitl [L0]; · iexact L0
    isplitl [L1]; · iexact L1
    iexact L2
  ihave Hog := (og_join c) $$ [G30 G11 G20 G21 G10 G31 G00 G01]
  · isplitl [G30]; · iexact G30
    isplitl [G11]; · iexact G11
    isplitl [G20]; · iexact G20
    isplitl [G21]; · iexact G21
    isplitl [G10]; · iexact G10
    isplitl [G31]; · iexact G31
    isplitl [G00]; · iexact G00
    iexact G01
  isplitl [Hx Hwq Hk Hv Hwo]
  · iframe
  isplitl [Hout]; · iexact Hout
  isplitl [Hxp Hkr Hvr Hpart Hrsr Hrsl Hog]
  · isplitl [Hxp]; · iexact Hxp
    isplitl [Hkr]; · iexact Hkr
    isplitl [Hvr]; · iexact Hvr
    isplitl [Hpart]; · iexact Hpart
    isplitl [Hrsr]; · iexact Hrsr
    isplitl [Hrsl]; · iexact Hrsl
    iexact Hog
  isplitl [Hzb Y0 Y1 Y2 Y3 Y4 Y5 Y6 Y7 Y8 Y9 Y10 Y11 Z0 Z1 Z2 Z3 Z4 Z5 Z6 Z7 Z8 Z9 Z10 Z11]
  · isplitl [Hzb]; · iexact Hzb
    isplitl [Y0 Y1 Y2 Y3 Y4 Y5 Y6 Y7 Y8 Y9 Y10 Y11]
    · iframe
    · iframe
  iexact HO

end Cert.KernelIdealProof
-- ==== Proof.KernelIdeal.Deal.lean ====
/-
The start of the protocol: its ghost state made, every semaphore's invariant allocated, and the tokens, places and credits dealt
to the devices that spend them.
-/
module

public import proofs.«01_k».proof.Proof.KernelIdeal.Whole

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores, listed -/

/-- A device's semaphores of the protocol: the handshake's, the send ends', the receive ends'. -/
abbrev CK : Type := Unit ⊕ (Fin 12 ⊕ Fin 12)
def kcell : Dev nD × CK → GSem nD τ sig
  | (c, .inl _) => barCell c
  | (c, .inr (.inl j)) => sCell c j
  | (c, .inr (.inr j)) => rCell c j

theorem sS_inj {j j' : Fin 12} (h : sS j = sS j') : j = j' := by
  have h1 := (dec_sS j).symm.trans ((congrArg dec h).trans (dec_sS j'))
  cases h1; rfl
theorem rS_inj {j j' : Fin 12} (h : rS j = rS j') : j = j' := by
  have h1 := (dec_rS j).symm.trans ((congrArg dec h).trans (dec_rS j'))
  cases h1; rfl
theorem sS_ne_rS (j j' : Fin 12) : sS j ≠ rS j' := fun h => by
  have h1 := (dec_sS j).symm.trans ((congrArg dec h).trans (dec_rS j'))
  cases h1

/-- The semaphore of a name, on whichever device. -/
def ksem : CK → SemLoc sig
  | .inl _ => .reg barS
  | .inr (.inl j) => .dma (sS j)
  | .inr (.inr j) => .dma (rS j)

theorem kcell_eq (c : Dev nD) (k : CK) : kcell (c, k) = ((c : Thread nD τ), ksem k) := by
  rcases k with _ | _ | _ <;> rfl

theorem ksem_injective : Function.Injective ksem := by
  rintro (_ | j | j) (_ | j' | j') h
  · rfl
  · cases h
  · cases h
  · cases h
  · rw [sS_inj (SemLoc.dma.inj h)]
  · exact absurd (SemLoc.dma.inj h) (sS_ne_rS j j')
  · cases h
  · exact absurd (SemLoc.dma.inj h).symm (sS_ne_rS j' j)
  · rw [rS_inj (SemLoc.dma.inj h)]

theorem kcell_injective : Function.Injective kcell := by
  rintro ⟨c, k⟩ ⟨c', k'⟩ h
  rw [kcell_eq, kcell_eq] at h
  have h1 : c = c' := congrArg (fun g : GSem nD τ sig => g.1.1) h
  have h2 : k = k' := ksem_injective (congrArg (fun g : GSem nD τ sig => g.2) h)
  rw [h1, h2]

def cells : Finset (GSem nD τ sig) := Finset.univ.map ⟨kcell, kcell_injective⟩

/-- The duties: the handshake's second one beside one of every semaphore. -/
abbrev TK : Type := Unit ⊕ CK
def tokOf : Dev nD × TK → GSem nD τ sig × ℕ × Bool
  | (c, .inl _) => (barCell c, 0, true)
  | (c, .inr k) => (kcell (c, k), 0, false)
theorem tokOf_injective : Function.Injective tokOf := by
  rintro ⟨c, _ | k⟩ ⟨c', _ | k'⟩ h
  · have h1 : c = c' := congrArg (fun x : GSem nD τ sig × ℕ × Bool => x.1.1.1) h
    rw [h1]
  · exact absurd (congrArg (fun x : GSem nD τ sig × ℕ × Bool => x.2.2) h) (fun h' => by cases h')
  · exact absurd (congrArg (fun x : GSem nD τ sig × ℕ × Bool => x.2.2) h) (fun h' => by cases h')
  · have h1 : (c, k) = (c', k') := kcell_injective (congrArg (fun x : GSem nD τ sig × ℕ × Bool => x.1) h)
    cases h1; rfl
def duties : Finset (GSem nD τ sig × ℕ × Bool) := Finset.univ.map ⟨tokOf, tokOf_injective⟩

/-- The launch's element of the resource algebra: the pipeline's and the protocol's. -/
def u₀ : UU :=
  (initOf (Pipeline.cells cfgs cellOf_inj) (Pipeline.launchToks cfgs cellOf_inj), initOf cells duties)

theorem over_CK (Φ : CK → sProp 𝕄) : bigSep Finset.univ Φ
    = iprop(Φ (.inl ()) ∗ bigSep Finset.univ (fun j => Φ (.inr (.inl j))) ∗ bigSep Finset.univ (fun j => Φ (.inr (.inr j)))) := by
  rw [bigSep_univ_sum, bigSep_univ_sum, bigSep_univ_eq_bigSepL [()] (by decide) (by decide), bigSepL_singleton]
  rfl

theorem over_12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The ghost state -/

section
variable (I : Inp F)

/-- The tokens of the duties of device `c`'s own semaphores. -/
def toks (c : Dev nD) : sProp 𝕄 :=
  iprop(dutyTok ER (barCell c) 0 true ∗ dutyTok ER (barCell c) 0 false
    ∗ bigSep Finset.univ (fun j : Fin 12 => dutyTok ER (sCell c j) 0 false) ∗ bigSep Finset.univ (fun j : Fin 12 => dutyTok ER (rCell c j) 0 false))

theorem toks_eq (c : Dev nD) :
    bigSep Finset.univ (fun k : TK => (dutyTok ER (tokOf (c, k)).1 (tokOf (c, k)).2.1 (tokOf (c, k)).2.2 : sProp 𝕄)) = toks c := by
  rw [bigSep_univ_sum, over_CK, bigSep_univ_eq_bigSepL [()] (by decide) (by decide), bigSepL_singleton]
  rfl

/-- What the launch's element deals device `c`. -/
def G (c : Dev nD) : sProp 𝕄 :=
  iprop((bigSep Finset.univ fun k : CK => roundState ER (sched I) (kcell (c, k)) 0)
    ∗ (bigSep Finset.univ fun k : CK => iprop(atPos ER (kcell (c, k)) 0 ∅ 0 ∗ reached ER (kcell (c, k)) 0)) ∗ toks c)

theorem fund_protocol : BI.own (ER (initOf cells duties)) ⊢ (|==> bigSep Finset.univ (G I) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => toks_eq c
  iintro HX
  imod (Rounds.fund ER (sched I) cells duties) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

/-- The kernel's own semaphores: both ends of every transfer. -/
def osem : Fin 12 ⊕ Fin 12 → SemLoc sig
  | .inl j => .dma (sS j)
  | .inr j => .dma (rS j)
theorem ownSemFacts : Pipeline.OwnSemFacts cfg0.spec osem := by decide

theorem ownSems_eq (c : Dev nD) : (Pipeline.ownSems0 (Ix := Unit) (Name := ℕ) (U := UU) (Lvl := ℕ) (Val := Elt F) (τ := τ) osem c : sProp 𝕄)
    = iprop(bigSep Finset.univ (fun j => zS c j) ∗ bigSep Finset.univ (fun j => zR c j)) := by
  unfold Pipeline.ownSems0
  rw [bigSep_univ_sum]
  rfl
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems_eq, unscopedSems_eq, over_CK]
  iintro ⟨⟨HS, HR⟩, HB⟩
  isplitl [HB]; · iexact HB
  isplitl [HS]; · iexact HS
  iexact HR

theorem open_invs (c : Dev nD) :
    iprop((bigSep Finset.univ fun k : CK => semVal (kcell (c, k)) 0) ∗ bigSep Finset.univ fun k : CK => roundState ER (sched I) (kcell (c, k)) 0)
      ⊢ (|={Set.univ}=> bigSep Finset.univ fun k : CK => iprop(∃ κ : ℕ, cellInv ER (sched I) κ (kcell (c, k))) : sProp 𝕄) := by
  rw [← bigSep_sep']
  exact (bigSep_mono fun k _ => (Rounds.body_intro ER (sched I) (kcell (c, k))).trans inv_alloc).trans (bigSep_fupd _ _)

theorem alloc_dev (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (sched I) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (open_invs I c) $$ [Hv Hst] with Hinv
  · isplitl [Hv] <;> iassumption
  imodintro
  isplitl [Hinv]; · iexact Hinv
  isplitl [Hat]; · iexact Hat
  iexact Htok

/-- What every device knows but for the levels. -/
def recs (K : Names) : sProp 𝕄 := iprop((bigSep Finset.univ (recB I K)) ∗ (bigSep Finset.univ (recS I K)) ∗ (bigSep Finset.univ (recR I K)))
instance (K : Names) : BI.Persistent (recs I K) := by unfold recs; infer_instance

/-- The same over the list of the semaphores. -/
def records (K : Dev nD × CK → ℕ) : sProp 𝕄 :=
  iprop((bigSep Finset.univ fun ck : Dev nD × CK => cellInv ER (sched I) (K ck) (kcell ck))
    ∗ bigSep Finset.univ fun ck : Dev nD × CK => reached ER (kcell ck) 0)
instance (K : Dev nD × CK → ℕ) : BI.Persistent (records I K) := by unfold records; infer_instance

def names (K : Dev nD × CK → ℕ) : Names where
  b c := K (c, .inl ())
  s cj := K (cj.1, .inr (.inl cj.2))
  r cj := K (cj.1, .inr (.inr cj.2))

theorem record_at (K : Dev nD × CK → ℕ) (ck : Dev nD × CK) :
    records I K ⊢ iprop(cellInv ER (sched I) (K ck) (kcell ck) ∗ reached ER (kcell ck) 0) := by
  unfold records
  exact BI.sep_mono (bigSep_elim (Finset.mem_univ ck)) (bigSep_elim (Finset.mem_univ ck))

theorem all_of {A : Type} [Fintype A] [DecidableEq A] {R : sProp 𝕄} [BI.Persistent R] {Φ : A → sProp 𝕄} (h : ∀ a, R ⊢ Φ a) :
    R ⊢ bigSep Finset.univ Φ := (BI.bigSep_of_persistent Finset.univ R).trans (bigSep_mono fun a _ => h a)

theorem recs_of (K : Dev nD × CK → ℕ) : records I K ⊢ recs I (names K) := by
  have hb : records I K ⊢ bigSep Finset.univ (recB I (names K)) := all_of fun c => record_at I K (c, .inl ())
  have hs : records I K ⊢ bigSep Finset.univ (recS I (names K)) := all_of fun cj => record_at I K (cj.1, .inr (.inl cj.2))
  have hr : records I K ⊢ bigSep Finset.univ (recR I (names K)) := all_of fun cj => record_at I K (cj.1, .inr (.inr cj.2))
  unfold recs
  iintro #H
  isplitr; · iapply hb; iexact H
  isplitr; · iapply hs; iexact H
  iapply hr; iexact H

/-! ## The tokens dealt to those who pay -/

/-- The tokens of the duties device `c` pays. -/
def payToks (c : Dev nD) : sProp 𝕄 :=
  iprop(dutyTok ER (barCell (rt c)) 0 true ∗ dutyTok ER (barCell (lt c)) 0 false
    ∗ bigSep Finset.univ (fun j : Fin 12 => dutyTok ER (sCell c j) 0 false) ∗ bigSep Finset.univ (fun j : Fin 12 => dutyTok ER (rCell (dstD c j) j) 0 false))

def ringE : Dev nD ≃ Dev nD := ⟨rt, lt, lt_rt, rt_lt⟩
def landE : Dev nD × Fin 12 ≃ Dev nD × Fin 12 :=
  ⟨fun x => (dstD x.1 x.2, x.2), fun x => (srcD x.1 x.2, x.2), fun x => Prod.ext (src_dst x.1 x.2) rfl, fun x => Prod.ext (dst_src x.1 x.2) rfl⟩

theorem lands_around :
    (bigSep Finset.univ fun c : Dev nD => bigSep Finset.univ fun j : Fin 12 => (dutyTok ER (rCell c j) 0 false : sProp 𝕄))
      = bigSep Finset.univ fun c : Dev nD => bigSep Finset.univ fun j : Fin 12 => (dutyTok ER (rCell (dstD c j) j) 0 false : sProp 𝕄) := by
  have h := bigSep_univ_equiv landE (fun x : Dev nD × Fin 12 => (dutyTok ER (rCell x.1 x.2) 0 false : sProp 𝕄))
  rw [bigSep_univ_prod, bigSep_univ_prod] at h
  exact h

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ringE (fun c : Dev nD => (dutyTok ER (barCell c) 0 true : sProp 𝕄)),
    bigSep_univ_equiv ringE.symm (fun c : Dev nD => (dutyTok ER (barCell c) 0 false : sProp 𝕄)), lands_around]
  exact BI.Entails.refl _

/-- What stays with device `c`: its places and the tokens it pays with. -/
def linear (c : Dev nD) : sProp 𝕄 := iprop((bigSep Finset.univ fun k : CK => atPos ER (kcell (c, k)) 0 ∅ 0) ∗ payToks c)
/-- What device `c` starts from but for its credits and the levels. -/
def G' (c : Dev nD) : sProp 𝕄 := iprop((∃ K, recs I K) ∗ linear c)

theorem start_ghost (K : Dev nD × CK → ℕ) (c : Dev nD) : iprop(records I K ∗ linear c) ⊢ G' I c := by
  unfold G'
  iintro ⟨#H, Hl⟩
  isplitr
  · iexists (names K); iapply (recs_of I K); iexact H
  · iexact Hl

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched I) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × CK => iprop(∃ κ : ℕ, cellInv ER (sched I) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched I) κ (kcell ck) : sProp 𝕄))) $$ HI
  icases HK with ⟨%K, #HI⟩
  ihave Htk := (toks_around (F := F)) $$ Htok
  iapply (with_persistent (R := records I K) fun c _ => start_ghost I K c)
  isplitr
  · unfold records; isplitl; · iexact HI
    iexact HR
  · unfold linear; rw [bigSep_sep']
    isplitl [Hat]; · iexact Hat
    iexact Htk

/-- Every device's semaphores and dealt state at once: the invariants allocated, the tokens dealt around. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc_dev I c).trans (bigSep_fupd _ _)).trans (BI.fupd_mono (regroup I))

/-! ## The credits -/

/-- What every device owes at the start. -/
def O₀ (c : Dev nD) : CellTallies nD τ sig Unit := Osum (dues c)

/-- The credits of a list of transfers. -/
def creds (c : Dev nD) : List (Fin 12) → sProp 𝕄
  | [] => iprop(emp)
  | j :: l => iprop(creds c l ∗ cred (tallyAt (rCell c j) () (amt j)))

theorem creds_of (c : Dev nD) (l : List (Fin 12)) :
    (Pipeline.launchCred (fun d => Osum (l.map (due d))) c : sProp 𝕄) ⊢ creds c l := by
  induction l with
  | nil =>
    rw [show (fun d : Dev nD => Osum (([] : List (Fin 12)).map (due d))) = fun _ => (0 : CellTallies nD τ sig Unit) from rfl, Pipeline.launchCred_zero]
    exact BI.Entails.refl _
  | cons j l ih =>
    rw [show (fun d : Dev nD => Osum ((j :: l).map (due d)))
      = fun d => (fun d => Osum (l.map (due d))) d + (fun d => tallyAt (rCell (dstD d j) j) () (amt j)) d from rfl, Pipeline.launchCred_add]
    exact BI.sep_mono ih (Pipeline.launchCred_tallyAt (.dma (rS j)) (fun d => dstD d j) (fun d => srcD d j) (fun d => dst_src d j) (fun d => src_dst d j) () (amt j) c)

theorem credits (c : Dev nD) : (Pipeline.launchCred O₀ c : sProp 𝕄) ⊢ iprop(creds c sends ∗ cred (tallyAt (barCell c) () 2)) := by
  rw [show O₀ = fun d => (fun d => (fun d => Osum (sends.map (due d))) d + (fun d => tallyAt (barCell (rt d)) () 1) d) d
      + (fun d => tallyAt (barCell (lt d)) () 1) d from rfl, Pipeline.launchCred_add, Pipeline.launchCred_add]
  have h1 := Pipeline.launchCred_tallyAt (Val := Elt F) (Name := ℕ) (U := UU) (Lvl := ℕ) (τ := τ) (sig := sig) (.reg barS) rt lt rt_lt lt_rt () 1 c
  have h2 := Pipeline.launchCred_tallyAt (Val := Elt F) (Name := ℕ) (U := UU) (Lvl := ℕ) (τ := τ) (sig := sig) (.reg barS) lt rt lt_rt rt_lt () 1 c
  have h3 : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add _ _ 1 1).symm]
    exact (cred_add _ _).2
  iintro ⟨⟨Ha, Hb⟩, Hc⟩
  isplitl [Ha]; · iapply (creds_of c sends); iexact Ha
  iapply h3
  isplitl [Hb]
  · iapply h1; iexact Hb
  · iapply h2; iexact Hc

/-! ## What a device starts from -/

/-- The protocol as device `c`'s body finds it. -/
def start (c : Dev nD) : sProp 𝕄 := iprop((∃ K, known I K) ∗ BX c ∗ sendsX c ∗ recvsX c)

theorem TX_all (c : Dev nD) :
    iprop(bigSep Finset.univ (fun j : Fin 12 => dutyTok ER (sCell c j) 0 false) ∗ bigSep Finset.univ (fun j : Fin 12 => dutyTok ER (rCell (dstD c j) j) 0 false)
      ∗ bigSep Finset.univ (fun j : Fin 12 => atPos ER (sCell c j) 0 ∅ 0)) ⊢ (sendsX c : sProp 𝕄) := by
  rw [← bigSep_sep', ← bigSep_sep']
  exact Entails.of_eq (over_12 (fun j => TX (F := F) c j))

theorem creds_all (c : Dev nD) : creds c sends ⊢ (bigSep Finset.univ fun j : Fin 12 => cred (tallyAt (rCell c j) () (amt j)) : sProp 𝕄) := by
  rw [over_12]
  unfold sends
  simp only [creds]
  iintro ⟨⟨⟨⟨⟨⟨⟨⟨⟨⟨⟨⟨-, H11⟩, H10⟩, H9⟩, H8⟩, H7⟩, H6⟩, H5⟩, H2⟩, H4⟩, H1⟩, H3⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem RX_all (c : Dev nD) :
    iprop(bigSep Finset.univ (fun j : Fin 12 => cred (tallyAt (rCell c j) () (amt j)))
      ∗ bigSep Finset.univ (fun j : Fin 12 => atPos ER (rCell c j) 0 ∅ 0)) ⊢ (recvsX c : sProp 𝕄) := by
  rw [← bigSep_sep']
  exact Entails.of_eq (over_12 (fun j => RX (F := F) c j))

theorem start_of (c : Dev nD) : iprop(levAts L lv ∗ Pipeline.launchCred O₀ c ∗ G' I c) ⊢ start I c := by
  unfold G' linear payToks start BX known recs
  rw [over_CK]
  iintro ⟨#Hlev, Hcr, ⟨⟨%K, #HB, #HS, #HR⟩, ⟨Hab, Has, Har⟩, Ht1, Ht2, Ht3, Ht4⟩⟩
  ihave Hc := (credits (F := F) c) $$ Hcr
  icases Hc with ⟨Hcs, Hcb⟩
  ihave Hcs := (creds_all (F := F) c) $$ Hcs
  isplitr
  · iexists K
    isplitr; · iexact HB
    isplitr; · iexact HS
    isplitr; · iexact HR
    iexact Hlev
  isplitl [Ht1 Ht2 Hcb Hab]
  · isplitl [Ht2]; · iexact Ht2
    isplitl [Ht1]; · iexact Ht1
    isplitl [Hcb]; · iexact Hcb
    iexact Hab
  isplitl [Ht3 Ht4 Has]
  · iapply (TX_all c)
    isplitl [Ht3]; · iexact Ht3
    isplitl [Ht4]; · iexact Ht4
    iexact Has
  · iapply (RX_all c)
    isplitl [Hcs]; · iexact Hcs
    iexact Har

theorem ends_all (c : Dev nD) : iprop(endS c ∗ endR c) ⊢ (Pipeline.ownSems0 (Ix := Unit) (Name := ℕ) (U := UU) (Lvl := ℕ) (Val := Elt F) (τ := τ) osem c : sProp 𝕄) := by
  rw [ownSems_eq, over_12, over_12]
  exact BI.Entails.refl _

end

end Cert.KernelIdealProof
-- ==== Proof.KernelIdeal.Run.lean ====
/-
The launch: every device's body run to its end, from any memory with all semaphores at zero. The inputs are kept, the results
are the values named, and every semaphore is at zero again.
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The inputs in memory. -/
def inp : Inp F where
  x c := m ((c : Thread nD τ).loc main_arg0)
  wq c := m ((c : Thread nD τ).loc main_arg1)
  k c := m ((c : Thread nD τ).loc main_arg2)
  v c := m ((c : Thread nD τ).loc main_arg3)
  wo c := m ((c : Thread nD τ).loc main_arg4)

/-! ## A whole buffer -/

theorem full_of (c : Dev nD) {s : Shape} {e : EltTy} {M : Memref sig .tc .vmem s e} {g : s.Idx → Elt F e} (f : Buf (Elt F) (M.view.loc (c : Thread nD τ)))
    (hM : M.view.set = Finset.univ) (h : ∀ i, M.view.read (Elt F) f i = g i) :
    ((M.view.loc (c : Thread nD τ)) ↦{fullShare} f : sProp 𝕄) ⊢ full c M g := by
  unfold full own
  rw [View.setOn_univ, hM]
  iintro H
  iexists f
  isplitr [H]
  · ipureintro; exact fun i _ => h i
  · iexact H

theorem any_of (c : Dev nD) {s : Shape} {e : EltTy} {M : Memref sig .tc .vmem s e} (hM : M.view.set = Finset.univ) :
    iprop(∃ f : Buf (Elt F) (M.view.loc (c : Thread nD τ)), (M.view.loc (c : Thread nD τ)) ↦{fullShare} f) ⊢ (anyFull c M : sProp 𝕄) := by
  unfold anyFull
  iintro ⟨%f, H⟩
  iexists (M.view.read (Elt F) f)
  iapply (full_of c f hM fun _ => rfl)
  iexact H

theorem full_to (c : Dev nD) {s : Shape} {e : EltTy} {M : Memref sig .tc .vmem s e} {g : s.Idx → Elt F e} (hM : M.view.set = Finset.univ) :
    (full c M g : sProp 𝕄) ⊢ iprop(∃ f : Buf (Elt F) (M.view.loc (c : Thread nD τ)), ⌜∀ i, M.view.read (Elt F) f i = g i⌝ ∗ (M.view.loc (c : Thread nD τ)) ↦{fullShare} f) := by
  unfold full own
  rw [View.setOn_univ, hM]
  iintro ⟨%f, %hf, H⟩
  iexists f
  isplitr [H]
  · ipureintro; exact fun i => hf i (Finset.mem_univ i)
  · iexact H

theorem any_to (c : Dev nD) {s : Shape} {e : EltTy} {M : Memref sig .tc .vmem s e} (hM : M.view.set = Finset.univ) :
    (anyFull c M : sProp 𝕄) ⊢ iprop(∃ f : Buf (Elt F) (M.view.loc (c : Thread nD τ)), (M.view.loc (c : Thread nD τ)) ↦{fullShare} f) := by
  unfold anyFull
  iintro ⟨%g, H⟩
  ihave H := (full_to c hM) $$ H
  icases H with ⟨%f, -, H⟩
  iexists f
  iexact H

theorem set_x : xM.view.set = Finset.univ := View.set_whole _
theorem set_wq : wqM.view.set = Finset.univ := View.set_whole _
theorem set_k : kM.view.set = Finset.univ := View.set_whole _
theorem set_v : vM.view.set = Finset.univ := View.set_whole _
theorem set_wo : woM.view.set = Finset.univ := View.set_whole _
theorem set_out : outM.view.set = Finset.univ := View.set_whole _
theorem set_xp : xpM.view.set = Finset.univ := View.set_whole _
theorem set_kr : krM.view.set = Finset.univ := View.set_whole _
theorem set_vr : vrM.view.set = Finset.univ := View.set_whole _
theorem set_part : partM.view.set = Finset.univ := View.set_whole _
theorem set_rsr : rsrM.view.set = Finset.univ := View.set_whole _
theorem set_rsl : rslM.view.set = Finset.univ := View.set_whole _
theorem set_og : ogM.view.set = Finset.univ := View.set_whole _

/-! ## The pipeline's proof data -/

/-- What device `c` holds after its body. -/
def done (c : Dev nD) : sProp 𝕄 := iprop(scr c ∗ semVal (barCell c) 0 ∗ endS c ∗ endR c)

/-- The one point's data: the inputs fetched and left alone, the result the value named, the protocol before and after. -/
def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => outF (inp m)
  Φ t := match t with
    | ⟨0, _⟩ => iprop(start (inp m) c ∗ scr c)
    | ⟨_ + 1, _⟩ => done c
  q _ := fullShare
  owed t := match t with
    | ⟨0, _⟩ => O₀ c
    | ⟨_ + 1, _⟩ => 0

theorem point_eq (t : Fin cfg0.N) : t = t0_0 := fin_N0 t

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b` whole, at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start (inp m) c ∗ scr c) ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(done c ∗ (dats m 0 c).owesAt () t0_0.succ ∗ stg c cc0_stg0_0 ((inp m).x c) ∗ stg c cc0_stg1_0 ((inp m).wq c) ∗ stg c cc0_stg2_0 ((inp m).k c)
    ∗ stg c cc0_stg3_0 ((inp m).v c) ∗ stg c cc0_stg4_0 ((inp m).wo c) ∗ stg c cc0_stg5_0 (outF (inp m)))

/-- A whole array's block is the array. -/
theorem emb_whole (r : Rect S1024x1024) (h0 : ∀ a, r.off a = 0) (h1 : ∀ a, r.stride a = 1) (i : r.shape.Idx) (a : Fin 2) : (r.emb i a).val = (i a).val := by
  rw [r.emb_apply, h0, h1]; omega

theorem before_0 (c : Dev nD) (d) : (dats m 0 c).before (0 : Fin 6) t0_0 d = (inp m).x c := by
  unfold Dat.before; rw [if_pos (fetch0_0 t0_0)]
  refine Eq.trans (b := (win0_0.blk t0_0).view.read (Elt F) (m ((c : Thread nD τ).loc main_arg0))) rfl ?_
  funext i
  exact congrArg (m ((c : Thread nD τ).loc main_arg0)) (show (win0_0.blk t0_0).view.emb i = i from funext fun a => Fin.ext (emb_whole (win0_0.rect t0_0) (fun a => Nat.zero_mul _) (fun _ => rfl) i a))
theorem before_1 (c : Dev nD) (d) : (dats m 0 c).before (1 : Fin 6) t0_0 d = (inp m).wq c := by
  unfold Dat.before; rw [if_pos (fetch0_1 t0_0)]
  refine Eq.trans (b := (win0_1.blk t0_0).view.read (Elt F) (m ((c : Thread nD τ).loc main_arg1))) rfl ?_
  funext i
  exact congrArg (m ((c : Thread nD τ).loc main_arg1)) (show (win0_1.blk t0_0).view.emb i = i from funext fun a => Fin.ext (emb_whole (win0_0.rect t0_0) (fun a => Nat.zero_mul _) (fun _ => rfl) i a))
theorem before_2 (c : Dev nD) (d) : (dats m 0 c).before (2 : Fin 6) t0_0 d = (inp m).k c := by
  unfold Dat.before; rw [if_pos (fetch0_2 t0_0)]
  refine Eq.trans (b := (win0_2.blk t0_0).view.read (Elt F) (m ((c : Thread nD τ).loc main_arg2))) rfl ?_
  funext i
  exact congrArg (m ((c : Thread nD τ).loc main_arg2)) (show (win0_2.blk t0_0).view.emb i = i from funext fun a => Fin.ext (emb_whole (win0_0.rect t0_0) (fun a => Nat.zero_mul _) (fun _ => rfl) i a))
theorem before_3 (c : Dev nD) (d) : (dats m 0 c).before (3 : Fin 6) t0_0 d = (inp m).v c := by
  unfold Dat.before; rw [if_pos (fetch0_3 t0_0)]
  refine Eq.trans (b := (win0_3.blk t0_0).view.read (Elt F) (m ((c : Thread nD τ).loc main_arg3))) rfl ?_
  funext i
  exact congrArg (m ((c : Thread nD τ).loc main_arg3)) (show (win0_3.blk t0_0).view.emb i = i from funext fun a => Fin.ext (emb_whole (win0_0.rect t0_0) (fun a => Nat.zero_mul _) (fun _ => rfl) i a))
theorem before_4 (c : Dev nD) (d) : (dats m 0 c).before (4 : Fin 6) t0_0 d = (inp m).wo c := by
  unfold Dat.before; rw [if_pos (fetch0_4 t0_0)]
  refine Eq.trans (b := (win0_4.blk t0_0).view.read (Elt F) (m ((c : Thread nD τ).loc main_arg4))) rfl ?_
  funext i
  exact congrArg (m ((c : Thread nD τ).loc main_arg4)) (show (win0_4.blk t0_0).view.emb i = i from funext fun a => Fin.ext (emb_whole (win0_0.rect t0_0) (fun a => Nat.zero_mul _) (fun _ => rfl) i a))

theorem stage_x (c : Dev nD) (X : S1024x1024.Idx → Elt F .f32) : (stg c cc0_stg0_0 X : sProp 𝕄) ⊢ full c xM X := by
  iintro ⟨%f, %hf, H⟩
  iapply (full_of c (M := xM) f set_x fun i => congrFun hf i); iexact H
theorem stage_wq (c : Dev nD) (X : S1024x1024.Idx → Elt F .f32) : (stg c cc0_stg1_0 X : sProp 𝕄) ⊢ full c wqM X := by
  iintro ⟨%f, %hf, H⟩
  iapply (full_of c (M := wqM) f set_wq fun i => congrFun hf i); iexact H
theorem stage_k (c : Dev nD) (X : S1024x1024.Idx → Elt F .f32) : (stg c cc0_stg2_0 X : sProp 𝕄) ⊢ full c kM X := by
  iintro ⟨%f, %hf, H⟩
  iapply (full_of c (M := kM) f set_k fun i => congrFun hf i); iexact H
theorem stage_v (c : Dev nD) (X : S1024x1024.Idx → Elt F .f32) : (stg c cc0_stg3_0 X : sProp 𝕄) ⊢ full c vM X := by
  iintro ⟨%f, %hf, H⟩
  iapply (full_of c (M := vM) f set_v fun i => congrFun hf i); iexact H
theorem stage_wo (c : Dev nD) (X : S1024x1024.Idx → Elt F .f32) : (stg c cc0_stg4_0 X : sProp 𝕄) ⊢ full c woM X := by
  iintro ⟨%f, %hf, H⟩
  iapply (full_of c (M := woM) f set_wo fun i => congrFun hf i); iexact H
theorem stage_out (c : Dev nD) (X : S1024x1024.Idx → Elt F .f32) : (stg c cc0_stg5_0 X : sProp 𝕄) ⊢ anyFull c outM := by
  iintro ⟨%f, %hf, H⟩
  iapply (any_of c (M := outM) set_out); iexists f; iexact H

theorem unstage_x (c : Dev nD) (X : S1024x1024.Idx → Elt F .f32) : full c xM X ⊢ (stg c cc0_stg0_0 X : sProp 𝕄) := by
  iintro H
  ihave H := (full_to c (M := xM) set_x) $$ H
  icases H with ⟨%f, %hf, H⟩
  iexists f; isplitr [H]; · ipureintro; exact funext hf
  iexact H
theorem unstage_wq (c : Dev nD) (X : S1024x1024.Idx → Elt F .f32) : full c wqM X ⊢ (stg c cc0_stg1_0 X : sProp 𝕄) := by
  iintro H
  ihave H := (full_to c (M := wqM) set_wq) $$ H
  icases H with ⟨%f, %hf, H⟩
  iexists f; isplitr [H]; · ipureintro; exact funext hf
  iexact H
theorem unstage_k (c : Dev nD) (X : S1024x1024.Idx → Elt F .f32) : full c kM X ⊢ (stg c cc0_stg2_0 X : sProp 𝕄) := by
  iintro H
  ihave H := (full_to c (M := kM) set_k) $$ H
  icases H with ⟨%f, %hf, H⟩
  iexists f; isplitr [H]; · ipureintro; exact funext hf
  iexact H
theorem unstage_v (c : Dev nD) (X : S1024x1024.Idx → Elt F .f32) : full c vM X ⊢ (stg c cc0_stg3_0 X : sProp 𝕄) := by
  iintro H
  ihave H := (full_to c (M := vM) set_v) $$ H
  icases H with ⟨%f, %hf, H⟩
  iexists f; isplitr [H]; · ipureintro; exact funext hf
  iexact H
theorem unstage_wo (c : Dev nD) (X : S1024x1024.Idx → Elt F .f32) : full c woM X ⊢ (stg c cc0_stg4_0 X : sProp 𝕄) := by
  iintro H
  ihave H := (full_to c (M := woM) set_wo) $$ H
  icases H with ⟨%f, %hf, H⟩
  iexists f; isplitr [H]; · ipureintro; exact funext hf
  iexact H
theorem unstage_out (c : Dev nD) (X : S1024x1024.Idx → Elt F .f32) : full c outM X ⊢ (stg c cc0_stg5_0 X : sProp 𝕄) := by
  iintro H
  ihave H := (full_to c (M := outM) set_out) $$ H
  icases H with ⟨%f, %hf, H⟩
  iexists f; isplitr [H]; · ipureintro; exact funext hf
  iexact H

theorem owes_in (c : Dev nD) : (dats m 0 c).owesAt () t0_0.castSucc ⊢ (ow c (dues c) : sProp 𝕄) := by
  unfold Dat.owesAt Pipeline.owesWithin ow
  iintro ⟨%W, -, H⟩
  iexists W; iexact H
theorem owes_out (c : Dev nD) : (ow c [] : sProp 𝕄) ⊢ (dats m 0 c).owesAt () t0_0.succ := by
  unfold Dat.owesAt Pipeline.owesWithin ow
  iintro ⟨%W, H⟩
  iexists W
  isplitr; · ipureintro; exact fun _ _ => Or.inl trivial
  iexact H

/-- The body from what the pipeline hands it to what it hands back. -/
theorem body_runs (c : Dev nD) : bodyPre m c ⊢ WP c body fun _ => bodyPost m c := by
  unfold bodyPre start
  simp only [before_0, before_1, before_2, before_3, before_4]
  iintro ⟨⟨⟨⟨%K, #HK⟩, HX⟩, Hscr⟩, HO, ⟨%d0, H0⟩, ⟨%d1, H1⟩, ⟨%d2, H2⟩, ⟨%d3, H3⟩, ⟨%d4, H4⟩, ⟨%d5, H5⟩⟩
  ihave H0 := (stage_x c _) $$ H0
  ihave H1 := (stage_wq c _) $$ H1
  ihave H2 := (stage_k c _) $$ H2
  ihave H3 := (stage_v c _) $$ H3
  ihave H4 := (stage_wo c _) $$ H4
  ihave H5 := (stage_out c _) $$ H5
  ihave HO := (owes_in m c) $$ HO
  iapply (wp_use (body_wp (inp m) K c) _) $$ [HX Hscr HO H0 H1 H2 H3 H4 H5]
  · isplitr; · iexact HK
    isplitl [HX]; · iexact HX
    isplitl [H0 H1 H2 H3 H4]
    · unfold ins
      isplitl [H0]; · iexact H0
      isplitl [H1]; · iexact H1
      isplitl [H2]; · iexact H2
      isplitl [H3]; · iexact H3
      iexact H4
    isplitl [H5]; · iexact H5
    isplitl [Hscr]; · iexact Hscr
    iexact HO
  unfold ins bodyPost done
  iintro %a ⟨⟨H0, H1, H2, H3, H4⟩, H5, Hscr, Hz, HO⟩
  isplitl [Hscr Hz]
  · isplitl [Hscr]; · iexact Hscr
    iexact Hz
  isplitl [HO]; · iapply (owes_out m c); iexact HO
  isplitl [H0]; · iapply (unstage_x c _); iexact H0
  isplitl [H1]; · iapply (unstage_wq c _); iexact H1
  isplitl [H2]; · iapply (unstage_k c _); iexact H2
  isplitl [H3]; · iapply (unstage_v c _); iexact H3
  isplitl [H4]; · iapply (unstage_wo c _); iexact H4
  iapply (unstage_out c _); iexact H5

set_option maxRecDepth 40000 in
theorem body_obligation (c : Dev nD) : BodyObligation (dats (F := F) m 0 c) (defs₀ (F := F)) 𝒱₀ () Set.univ := fun t => by
  rw [point_eq t]
  rw [bigSep_W0, bigSep_W0]
  simp only [owns_eq]
  show bodyPre m c ⊢ WP c (bodyAt0 t0_0) (fun _ => bodyPost m c)
  rw [body_eq]
  exact body_runs m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start (inp m) c ∗ emp) := by
  iintro ⟨-, Hlev, Hcr, -, HG⟩
  imodintro
  isplitl
  · iapply (start_of (inp m) c)
    isplitl [Hlev]; · iexact Hlev
    isplitl [Hcr]; · iexact Hcr
    iexact HG
  · iempintro

theorem phi_in (c : Dev nD) :
    iprop(start (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (inp m) c ∗ scr c) from rfl, scopedRest0_eq]
  unfold scr
  iintro ⟨Hs, -, H0, H1, H2, H3, H4, H5, H6⟩
  isplitl [Hs]; · iexact Hs
  isplitl [H0]; · iapply (any_of c (M := xpM) set_xp); iexact H0
  isplitl [H1]; · iapply (any_of c (M := krM) set_kr); iexact H1
  isplitl [H2]; · iapply (any_of c (M := vrM) set_vr); iexact H2
  isplitl [H3]; · iapply (any_of c (M := partM) set_part); iexact H3
  isplitl [H4]; · iapply (any_of c (M := rsrM) set_rsr); iexact H4
  isplitl [H5]; · iapply (any_of c (M := rslM) set_rsl); iexact H5
  iapply (any_of c (M := ogM) set_og); iexact H6

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq, unscopedSems_eq]
  unfold done scr
  iintro ⟨⟨H0, H1, H2, H3, H4, H5, H6⟩, HB, HS, HR⟩
  isplitl [HB]; · iexact HB
  isplitl [HS HR]
  · iapply (ends_all c)
    isplitl [HS] <;> iassumption
  isplitl [H0]; · iapply (any_to c (M := xpM) set_xp); iexact H0
  isplitl [H1]; · iapply (any_to c (M := krM) set_kr); iexact H1
  isplitl [H2]; · iapply (any_to c (M := vrM) set_vr); iexact H2
  isplitl [H3]; · iapply (any_to c (M := partM) set_part); iexact H3
  isplitl [H4]; · iapply (any_to c (M := rsrM) set_rsr); iexact H4
  isplitl [H5]; · iapply (any_to c (M := rslM) set_rsl); iexact H5
  iapply (any_to c (M := ogM) set_og); iexact H6

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_dues c _ (by fin_cases w <;> fin_cases s <;> decide)
    · rw [show (dats m 0 c).owed ⟨_ + 1, ht⟩ = 0 from rfl, MayWait_zero]; iintro -; iempintro

/-- The final memory: every window's array as the point leaves it. -/
def Post : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 40000 in
theorem run_main : θ_run defs (onTc (τ := τ) (main (F := F))) ⟨m, fun _ => 0, ρ⟩ (fun r => Post m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_protocol (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_0 (c : Dev nD) : (dats m 0 c).arrAt (0 : Fin 6) cfg0.N = m ((c : Thread nD τ).loc main_arg0) := (dats m 0 c).arrAt_in (0 : Fin 6) rfl _
theorem final_1 (c : Dev nD) : (dats m 0 c).arrAt (1 : Fin 6) cfg0.N = m ((c : Thread nD τ).loc main_arg1) := (dats m 0 c).arrAt_in (1 : Fin 6) rfl _
theorem final_2 (c : Dev nD) : (dats m 0 c).arrAt (2 : Fin 6) cfg0.N = m ((c : Thread nD τ).loc main_arg2) := (dats m 0 c).arrAt_in (2 : Fin 6) rfl _
theorem final_3 (c : Dev nD) : (dats m 0 c).arrAt (3 : Fin 6) cfg0.N = m ((c : Thread nD τ).loc main_arg3) := (dats m 0 c).arrAt_in (3 : Fin 6) rfl _
theorem final_4 (c : Dev nD) : (dats m 0 c).arrAt (4 : Fin 6) cfg0.N = m ((c : Thread nD τ).loc main_arg4) := (dats m 0 c).arrAt_in (4 : Fin 6) rfl _

theorem final_5 (c : Dev nD) : (dats m 0 c).arrAt (5 : Fin 6) cfg0.N = outF (inp m) := by
  show (dats m 0 c).arrAt (5 : Fin 6) (0 + 1) = _
  unfold Dat.arrAt
  dsimp only
  rw [dif_pos (show 0 < cfg0.N from t0_0.isLt), if_pos (flush0_5 _)]
  funext i
  have e : (win0_5.blk t0_0).view.emb i = i := funext fun a => Fin.ext (emb_whole (win0_5.rect t0_0) (fun a => Nat.zero_mul _) (fun _ => rfl) i a)
  refine Eq.trans (congrArg _ e.symm) ?_
  exact View.write_emb_of_mem _ _ (Finset.mem_univ _)

/-- The run keeps its arguments, leaves every semaphore at zero and every device's result at the value named. -/
theorem run_value : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ (r.2.sem = fun _ => 0)
    ∧ ∀ c : Dev nD, r.2.mem ((c.tc : Thread nD τ).loc main_v1) = outF (inp m)) :=
  (θ_run defs _ _).mono (fun _ h => ⟨fun c => ⟨(h.1 c 0).trans (final_0 m c), (h.1 c 1).trans (final_1 m c), (h.1 c 2).trans (final_2 m c),
    (h.1 c 3).trans (final_3 m c), (h.1 c 4).trans (final_4 m c)⟩, h.2, fun c => (h.1 c 5).trans (final_5 m c)⟩) (run_main m ρ)

end Cert.KernelIdealProof
-- ==== Proof.Finite.lean ====
/-
The precondition read at an index: where it holds, every entry of x, Wq and of each device's K is a real number.
-/
module

public import proofs.«01_k».proof.Pre_finite_KernelIdeal
public import Idealize.ShloMosaic.Lib.Pointwise

@[expose] public section

noncomputable section

namespace Cert.Finite

open Idealize.ShloMosaic Cert.Pre_finite_KernelIdeal

instance facts : Cert.Pre_finite_KernelIdeal.Facts where
  bcast_S_S1024x1024 := by decide
  reducesTo_S1024x1024_S_d0_1 := by decide
  h_S_ := by decide

theorem andi_eq : ∀ {a b : BitVec 1}, IntOp.andi a b = 1#1 → a = 1#1 ∧ b = 1#1 := by
  unfold IntOp.andi; decide

/-- An `and` over a set is true only where every member is. -/
theorem fold_andi {ι : Type*} (s : Finset ι) (p : ι → BitVec 1) (h : Finset.fold IntOp.andi (1#1) p s = 1#1) : ∀ i ∈ s, p i = 1#1 := by
  classical
  induction s using Finset.induction_on with
  | empty => simp
  | insert a s ha ih =>
    rw [Finset.fold_insert ha] at h
    have h2 := andi_eq h
    intro i hi
    rcases Finset.mem_insert.mp hi with rfl | hi
    · exact h2.1
    · exact ih h2.2 i hi

theorem univ_andi {ι : Type*} [Fintype ι] (p : ι → BitVec 1) (h : Finset.fold IntOp.andi (1#1) p Finset.univ = 1#1) (i : ι) : p i = 1#1 :=
  fold_andi _ _ h i (Finset.mem_univ i)

theorem inf_word : Ideal.ofBits .f32 0x7F800000#32 = (⊤ : EReal) := by
  simp [Ideal.ofBits, Ideal.ieee]

/-- A number whose absolute value is below +∞ is real. -/
theorem real_of_abs (a : Ideal .f32) (h : BitVec.ofBool (decide (FloatOps.absf a < Ideal.ofBits FTy.f32 2139095040#32)) = 1#1) :
    ∃ r : ℝ, (a : EReal) = r := by
  have h1 : (max a (-a) : EReal) < ⊤ := by
    rw [inf_word] at h
    change BitVec.ofBool (decide ((max a (-a) : EReal) < ⊤)) = 1#1 at h
    by_contra hn
    rw [decide_eq_false hn] at h
    exact absurd h (by decide)
  refine ⟨EReal.toReal a, (EReal.coe_toReal ?_ ?_).symm⟩
  · exact (lt_of_le_of_lt (le_max_left _ _) h1).ne
  · intro hb
    have := lt_of_le_of_lt (le_max_right _ _) h1
    rw [hb] at this
    exact absurd this (by simp)

/-- Where the precondition holds, its first three arguments hold real numbers only. -/
theorem fn_real (x wq k v wo : FVec Ideal S1024x1024 .f32) (h : fn (F := Ideal) x wq k v wo = fun _ => 1#1) :
    (∀ a b, ∃ r : ℝ, (x (ix2 a b) : EReal) = r) ∧ (∀ a b, ∃ r : ℝ, (wq (ix2 a b) : EReal) = r)
      ∧ (∀ a b, ∃ r : ℝ, (k (ix2 a b) : EReal) = r) := by
  have h := congrFun h ix0
  unfold fn at h
  pointwise [] at h
  obtain ⟨h12, h3⟩ := andi_eq h
  obtain ⟨h1, h2⟩ := andi_eq h12
  have g1 := univ_andi _ h1
  have g2 := univ_andi _ h2
  have g3 := univ_andi _ h3
  exact ⟨fun a b => real_of_abs _ (g1 (a, b)), fun a b => real_of_abs _ (g2 (a, b)), fun a b => real_of_abs _ (g3 (a, b))⟩

end Cert.Finite

end
-- ==== Proof.Attention.lean ====
/-
The function that kernel and reference both compute, over the extended reals, and the regrouping of its sums by device.
Row `i` of the queries attends to the rows `j` of the keys whose block of 64 rows has the residue of its own block modulo 4.
-/
module

public import Idealize.ShloMosaic.PureOps.Ideal
public import Idealize.ShloMosaic.Lib.Pointwise

@[expose] public section

noncomputable section

namespace Cert.Attention

open Idealize.ShloMosaic

/-- An array of 1024 columns. -/
abbrev Mat (n : ℕ) := Fin n → Fin 1024 → EReal

/-- Column `d` of head `h`. -/
abbrev col (h : Fin 8) (d : Fin 128) : Fin 1024 := ⟨128 * h.val + d.val, by omega⟩

/-- The head of a column. -/
abbrev head (e : Fin 1024) : Fin 8 := ⟨e.val / 128, by omega⟩

/-- The factor of the scores. -/
def scale : EReal := Ideal.ofBits .f32 0x3DB504F3#32

/-- The queries. -/
def query (x wq : Mat 1024) (i e : Fin 1024) : EReal := ∑ k : Fin 1024, x i k * wq k e

/-- The scaled score of query row `i` and key row `j` in head `h`. -/
def score (x wq : Mat 1024) (k : Mat 4096) (i : Fin 1024) (h : Fin 8) (j : Fin 4096) : EReal :=
  (∑ d : Fin 128, query x wq i (col h d) * k j (col h d)) * scale

/-- Query row `i` attends to key row `j`. -/
abbrev Attends (i : Fin 1024) (j : Fin 4096) : Prop := j.val / 64 % 4 = i.val / 64 % 4

/-- The weighted sum of the values. -/
def num (x wq : Mat 1024) (k v : Mat 4096) (i e : Fin 1024) : EReal :=
  ∑ j : Fin 4096, if Attends i j then Ideal.exp (score x wq k i (head e) j) * v j e else 0

/-- The sum of the weights. -/
def den (x wq : Mat 1024) (k : Mat 4096) (i : Fin 1024) (h : Fin 8) : EReal :=
  ∑ j : Fin 4096, if Attends i j then Ideal.exp (score x wq k i h j) else 0

/-- The result. -/
def out (x wq : Mat 1024) (k v : Mat 4096) (wo : Mat 1024) (i n : Fin 1024) : EReal :=
  ∑ e : Fin 1024, Ideal.div (num x wq k v i e) (den x wq k i (head e)) * wo e n

/-- Row `i` of device `c`'s 1024 rows, as a row of the whole array. -/
abbrev wholeRow (c : Fin 4) (i : Fin 1024) : Fin 4096 := ⟨1024 * c.val + i.val, by omega⟩

/-- Row `j` of those 256 rows of device `c` whose blocks have residue `r`, as a row of the whole array. -/
abbrev devRow (r c : Fin 4) (j : Fin 256) : Fin 4096 :=
  ⟨1024 * c.val + (256 * (j.val / 64) + 64 * r.val + j.val % 64), by omega⟩

/-- A sum over the key rows of residue `r`, taken device by device. -/
theorem sum_devices (r : Fin 4) (f : Fin 4096 → EReal) :
    ∑ c : Fin 4, ∑ j : Fin 256, f (devRow r c j) = ∑ j : Fin 4096, if j.val / 64 % 4 = r.val then f j else 0 := by
  rw [← Finset.sum_filter, ← Fintype.sum_prod_type' (f := fun c j => f (devRow r c j))]
  refine Finset.sum_bij' (fun p _ => devRow r p.1 p.2)
    (fun j _ => (⟨j.val / 1024, by omega⟩, ⟨64 * (j.val / 256 % 4) + j.val % 64, by omega⟩)) ?_ ?_ ?_ ?_ ?_
  · intro p _
    have := p.1.isLt; have := p.2.isLt
    simp only [Finset.mem_filter, Finset.mem_univ, true_and]
    omega
  · intros; exact Finset.mem_univ _
  · rintro ⟨c, j⟩ _
    have := c.isLt; have := j.isLt
    refine Prod.ext (Fin.ext ?_) (Fin.ext ?_) <;> dsimp only <;> omega
  · intro j hj
    have := j.isLt
    simp only [Finset.mem_filter, Finset.mem_univ, true_and] at hj
    refine Fin.ext ?_
    dsimp only
    omega
  · intros; rfl

end Cert.Attention

end
-- ==== Proof.KernelValue.lean ====
/-
What the kernel computes over the extended reals: `outF` is the attention of Attention.lean, the keys and values of device
`c` being rows 1024 c … 1024 c + 1023 of the whole arrays.
-/
module

public import proofs.«01_k».proof.Proof.Attention
public import proofs.«01_k».proof.Proof.KernelIdeal.Rects
public import proofs.«01_k».proof.Proof.KernelIdeal.Values

@[expose] public section

noncomputable section

namespace Cert.KernelValue

open Idealize.ShloMosaic Idealize.ShloMosaic.TcCoe Cert.KernelIdeal Cert.KernelIdeal.Gen Cert.KernelIdealProof Cert.Attention

/-! ## The stored values at an index -/

theorem qPay_apply (x : Vec Ideal S128x1024 .f32) (wq : Vec Ideal S1024x1024 .f32) (r : Fin 128) (e : Fin 1024) :
    qPay x wq (ix2 r e) = ∑ k : Fin 1024, (x (ix2 r k) * wq (ix2 k e) : EReal) := by
  pointwise [qPay]

theorem wPay_apply (h : Fin 8) (q : FVec Ideal S128x1024 .f32) (k : Vec Ideal S1x256x128 .f32) (r : Fin 128) (j : Fin 256) :
    wPay h q k (ix2 r j)
      = Ideal.exp ((∑ d : Fin 128, (q (ix2 r (col h d)) * k (ix3 0 j d) : EReal)) * scale) := by
  pointwise [wPay, scale]

theorem cPay_apply (w : FVec Ideal S128x256 .f32) (v : Vec Ideal S1x256x128 .f32) (r : Fin 128) (d : Fin 128) :
    cPay w v (ix3 0 r d) = ∑ j : Fin 256, (w (ix2 r j) * v (ix3 0 j d) : EReal) := by
  pointwise [cPay]

theorem lPay_apply (w : FVec Ideal S128x256 .f32) (r : Fin 128) :
    lPay w (ix3 0 r 0) = ∑ j : Fin 256, (w (ix2 r j) : EReal) := by
  pointwise [lPay]

theorem gPay_apply (n : Vec Ideal S1x128x1024 .f32) (wo : Vec Ideal S1024x1024 .f32) (r : Fin 128) (e : Fin 1024) :
    gPay n wo (ix3 0 r e) = ∑ k : Fin 1024, (n (ix3 0 r k) * wo (ix2 k e) : EReal) := by
  pointwise [gPay]

/-! ## The rows read -/

/-- The query row that row `r` of half `b` of chunk `q` is. -/
abbrev qRow (q : Fin 4) (b : Fin 2) (r : Fin 128) : Fin 1024 :=
  ⟨256 * ((128 * b.val + r.val) / 64) + 64 * q.val + r.val % 64, by omega⟩

/-- The chunk in slot `k` of device `c`. -/
abbrev chunk (c : Dev nD) (k : Fin 4) : Fin 4 := ⟨(c.val + k.val) % 4, by omega⟩

theorem xpF_emb (x : Vec Ideal S1024x1024 .f32) (c : Dev nD) (k : Fin 4) (b : Fin 2) (r : Fin 128) (e : Fin 1024) :
    xpF x ((rQ c k b).emb (ix2 r e)) = x (ix2 (qRow (chunk c k) b r) e) := by
  have h0 : ((rQ c k b).emb (ix2 r e) 0).val = 256 * ((c.val + k.val) % 4) + 128 * b.val + r.val := by
    rw [Rect.emb_apply]
    change k0_off2 c (BitVec.ofNat 32 k.val) (BitVec.ofNat 32 (128 * b.val)) 0 + 1 * r.val = _
    rw [off2_eq]; change 256 * ((c.val + k.val) % 4) + 128 * b.val + 1 * r.val = _; omega
  have h1 : ((rQ c k b).emb (ix2 r e) 1).val = e.val := by
    rw [Rect.emb_apply]
    change k0_off2 c (BitVec.ofNat 32 k.val) (BitVec.ofNat 32 (128 * b.val)) 1 + 1 * e.val = _
    rw [off2_eq]; change 0 + 1 * e.val = _; omega
  have hr := r.isLt
  have hb := b.isLt
  refine congrArg x (congrArg₂ ix2 (Fin.ext ?_) (Fin.ext h1))
  change 256 * (((rQ c k b).emb (ix2 r e) 0).val / 64 % 4) + 64 * (((rQ c k b).emb (ix2 r e) 0).val / 256)
    + ((rQ c k b).emb (ix2 r e) 0).val % 64 = 256 * ((128 * b.val + r.val) / 64) + 64 * ((c.val + k.val) % 4) + r.val % 64
  rw [h0]; omega

theorem kvF_emb (c : Dev nD) (a : Vec Ideal S1024x1024 .f32) (k : Fin 4) (h : Fin 8) (j : Fin 256) (d : Fin 128) :
    kvF c a ((rKVh k h).emb (ix3 0 j d)) = a (ix2 (kvRow c k j) (col h d)) := by
  have h0 : (rKVh k h).emb (ix3 0 j d) 0 = k := Fin.ext (by rw [Rect.emb_apply]; change k.val + 1 * 0 = _; omega)
  have h1 : (rKVh k h).emb (ix3 0 j d) 1 = j := Fin.ext (by rw [Rect.emb_apply]; change 0 + 1 * j.val = _; omega)
  have h2 : (rKVh k h).emb (ix3 0 j d) 2 = col h d :=
    Fin.ext (by rw [Rect.emb_apply]; change 128 * h.val + 1 * d.val = 128 * h.val + d.val; omega)
  unfold kvF
  rw [h0, h1, h2]

/-! ## One device's part -/

section
variable (I : Inp Ideal) (x wq wo : Mat 1024) (K V : Mat 4096)
  (hx : ∀ c i e, I.x c (ix2 i e) = x i e) (hwq : ∀ c i e, I.wq c (ix2 i e) = wq i e) (hwo : ∀ c i e, I.wo c (ix2 i e) = wo i e)
  (hk : ∀ (c : Dev nD) (i e : Fin 1024), I.k c (ix2 i e) = K (wholeRow c i) e)
  (hv : ∀ (c : Dev nD) (i e : Fin 1024), I.v c (ix2 i e) = V (wholeRow c i) e)
include hx hwq hk

theorem wV_apply (c : Dev nD) (k : Fin 4) (b : Fin 2) (h : Fin 8) (r : Fin 128) (j : Fin 256) :
    wV I c k b h (ix2 r j) = Ideal.exp (score x wq K (qRow (chunk c k) b r) h (devRow (chunk c k) c j)) := by
  have hq : ∀ e : Fin 1024, qV I c k b (ix2 r e) = query x wq (qRow (chunk c k) b r) e := fun e => by
    unfold qV query
    rw [qPay_apply]
    exact Finset.sum_congr rfl fun l _ => by rw [xpF_emb, hx, hwq]
  unfold wV
  rw [wPay_apply]
  unfold score
  congr 2
  refine Finset.sum_congr rfl fun d _ => ?_
  rw [hq, kvF_emb, hk]
  rfl

include hv in
theorem partV_num (c : Dev nD) (k : Fin 4) (b : Fin 2) (r : Fin 128) (e : Fin 1024) :
    partV I c k b (ix3 0 r ⟨e.val, by omega⟩)
      = ∑ j : Fin 256, Ideal.exp (score x wq K (qRow (chunk c k) b r) (head e) (devRow (chunk c k) c j)) * V (devRow (chunk c k) c j) e := by
  refine (dif_pos (show e.val < 1024 from e.isLt)).trans ?_
  change cV I c k b (head e) (ix3 0 r ⟨e.val % 128, by omega⟩) = _
  unfold cV
  rw [cPay_apply]
  refine Finset.sum_congr rfl fun j _ => ?_
  rw [wV_apply I x wq K hx hwq hk, kvF_emb, hv]
  congr 2
  exact Fin.ext (by change 128 * (e.val / 128) + e.val % 128 = e.val; omega)

theorem partV_den (c : Dev nD) (k : Fin 4) (b : Fin 2) (r : Fin 128) (h : Fin 8) :
    partV I c k b (ix3 0 r ⟨1024 + h.val, by omega⟩)
      = ∑ j : Fin 256, Ideal.exp (score x wq K (qRow (chunk c k) b r) h (devRow (chunk c k) c j)) := by
  refine (dif_neg (show ¬ 1024 + h.val < 1024 by omega)).trans ((dif_pos (show 1024 + h.val < 1032 by omega)).trans ?_)
  have : (⟨1024 + h.val - 1024, by omega⟩ : Fin 8) = h := Fin.ext (by dsimp only; omega)
  change lPay (wV I c k b (⟨1024 + h.val - 1024, by omega⟩ : Fin 8)) (ix3 0 r 0) = _
  rw [this, lPay_apply]
  exact Finset.sum_congr rfl fun j _ => by rw [wV_apply I x wq K hx hwq hk]

end

/-! ## The sums round the ring -/

/-- The slot in which device `d` has the chunk of device `c`. -/
abbrev slot (c d : Dev nD) : Fin 4 := ⟨(c.val + 4 - d.val) % 4, by omega⟩

theorem chunk_slot (c d : Dev nD) : chunk d (slot c d) = c := by revert c d; decide

/-- A sum over the devices, begun at a device's right neighbour. -/
theorem sum_from_right (P : Dev nD → EReal) (c : Dev nD) : P (lt (lt (lt c))) + P (lt (lt c)) + P (lt c) + P c = ∑ d : Fin 4, P d := by
  rw [Fin.sum_univ_four]
  match c with
  | 0 => change P 1 + P 2 + P 3 + P 0 = _; ac_rfl
  | 1 => change P 2 + P 3 + P 0 + P 1 = _; ac_rfl
  | 2 => change P 3 + P 0 + P 1 + P 2 = _; ac_rfl
  | 3 => rfl

/-- A sum over the devices, begun at a device's left neighbour. -/
theorem sum_from_left (P : Dev nD → EReal) (c : Dev nD) : P (rt (rt (rt c))) + P (rt (rt c)) + P (rt c) + P c = ∑ d : Fin 4, P d := by
  rw [Fin.sum_univ_four]
  match c with
  | 0 => change P 3 + P 2 + P 1 + P 0 = _; ac_rfl
  | 1 => change P 0 + P 3 + P 2 + P 1 = _; ac_rfl
  | 2 => change P 1 + P 0 + P 3 + P 2 = _; ac_rfl
  | 3 => change P 2 + P 1 + P 0 + P 3 = _; ac_rfl

/-- A summed half is the sum over the devices of their parts of the chunk. -/
theorem sum_ring (I : Inp Ideal) (c : Dev nD) (b : Fin 2) (i : S1x128x1152.Idx) :
    (if b = 0 then A2 I c else B2 I c) i = ∑ d : Fin 4, (partV I d (slot c d) b i : EReal) := by
  have hb : b = 0 ∨ b = 1 := by omega
  rcases hb with rfl | rfl
  · rw [if_pos rfl, ← sum_from_right (fun d => partV I d (slot c d) 0 i) c]
    have h3 : slot c (lt (lt (lt c))) = 3 := by revert c; decide
    have h2 : slot c (lt (lt c)) = 2 := by revert c; decide
    have h1 : slot c (lt c) = 1 := by revert c; decide
    have h0 : slot c c = 0 := by revert c; decide
    simp only [A2, R2, A1, R1, A0, R0, aPay_apply, Ideal.addf_def, h0, h1, h2, h3]
  · rw [if_neg (by decide), ← sum_from_left (fun d => partV I d (slot c d) 1 i) c]
    have h3 : slot c (rt (rt (rt c))) = 1 := by revert c; decide
    have h2 : slot c (rt (rt c)) = 2 := by revert c; decide
    have h1 : slot c (rt c) = 3 := by revert c; decide
    have h0 : slot c c = 0 := by revert c; decide
    simp only [B2, L2, B1, L1, B0, L0, aPay_apply, Ideal.addf_def, h0, h1, h2, h3]

/-! ## The result -/

theorem attends_qRow (c : Fin 4) (b : Fin 2) (r : Fin 128) (j : Fin 4096) :
    (j.val / 64 % 4 = c.val) = Attends (qRow c b r) j := by
  have := r.isLt
  have := b.isLt
  refine congrArg (j.val / 64 % 4 = ·) ?_
  change c.val = (256 * ((128 * b.val + r.val) / 64) + 64 * c.val + r.val % 64) / 64 % 4
  omega

section
variable (I : Inp Ideal) (x wq wo : Mat 1024) (K V : Mat 4096)
  (hx : ∀ c i e, I.x c (ix2 i e) = x i e) (hwq : ∀ c i e, I.wq c (ix2 i e) = wq i e) (hwo : ∀ c i e, I.wo c (ix2 i e) = wo i e)
  (hk : ∀ (c : Dev nD) (i e : Fin 1024), I.k c (ix2 i e) = K (wholeRow c i) e)
  (hv : ∀ (c : Dev nD) (i e : Fin 1024), I.v c (ix2 i e) = V (wholeRow c i) e)
include hx hwq hk

include hv in
theorem summed_num (c : Dev nD) (b : Fin 2) (r : Fin 128) (e : Fin 1024) :
    (if b = 0 then A2 I c else B2 I c) (ix3 0 r ⟨e.val, by omega⟩) = num x wq K V (qRow c b r) e := by
  rw [sum_ring]
  simp only [partV_num I x wq K V hx hwq hk hv, chunk_slot]
  rw [sum_devices c (fun j => Ideal.exp (score x wq K (qRow c b r) (head e) j) * V j e)]
  exact Finset.sum_congr rfl fun j _ => if_congr (iff_of_eq (attends_qRow c b r j)) rfl rfl

theorem summed_den (c : Dev nD) (b : Fin 2) (r : Fin 128) (h : Fin 8) :
    (if b = 0 then A2 I c else B2 I c) (ix3 0 r ⟨1024 + h.val, by omega⟩) = den x wq K (qRow c b r) h := by
  rw [sum_ring]
  simp only [partV_den I x wq K hx hwq hk, chunk_slot]
  rw [sum_devices c (fun j => Ideal.exp (score x wq K (qRow c b r) h j))]
  exact Finset.sum_congr rfl fun j _ => if_congr (iff_of_eq (attends_qRow c b r j)) rfl rfl

include hv hwo in
theorem oV_apply (c : Dev nD) (b : Fin 2) (r : Fin 128) (n : Fin 1024) :
    oV I c b (ix3 0 r n) = out x wq K V wo (qRow c b r) n := by
  unfold oV out
  rw [gPay_apply]
  refine Finset.sum_congr rfl fun e _ => ?_
  rw [hwo]
  congr 1
  have he : (⟨128 * (e.val / 128) + e.val % 128, by omega⟩ : Fin 1152) = ⟨e.val, by omega⟩ := Fin.ext (by dsimp only; omega)
  rw [← summed_num I x wq K V hx hwq hk hv, ← summed_den I x wq K hx hwq hk, ← he]
  exact nPay_apply (head e) _ (ix3 0 r ⟨e.val % 128, by omega⟩)

include hv hwo in
/-- The kernel's result is the attention of the whole arrays. -/
theorem outF_apply (i n : Fin 1024) : outF I (ix2 i n) = out x wq K V wo i n := by
  have hi := i.isLt
  refine (oV_apply I x wq wo K V hx hwq hwo hk hv ⟨i.val / 64 % 4, by have : nD = 4 := rfl; omega⟩ ⟨i.val / 512, by omega⟩
    ⟨64 * (i.val / 256 % 2) + i.val % 64, by omega⟩ n).trans (congrArg (out x wq K V wo · n) (Fin.ext ?_))
  change 256 * ((128 * (i.val / 512) + (64 * (i.val / 256 % 2) + i.val % 64)) / 64) + 64 * (i.val / 64 % 4)
    + (64 * (i.val / 256 % 2) + i.val % 64) % 64 = i.val
  omega

end

end Cert.KernelValue

end
-- ==== Proof.Softmax.lean ====
/-
Softmax over the extended reals, for one row of real scores: the weights may be taken without the maximum subtracted, and
the division by their sum may be done once, after the weighted sum of the values.
-/
module

public import Idealize.ShloMosaic.PureOps.Ideal

@[expose] public section

noncomputable section

namespace Cert.Softmax

open Idealize.ShloMosaic

/-- A nonnegative real factor goes into a sum of extended reals. -/
theorem mul_sum_of_nonneg {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of scores of which the masked ones are −∞ and at least one is real is real. -/
theorem fold_max_real {n : ℕ} (M : Fin n → Prop) [DecidablePred M] (hM : ∃ j, M j) (σ : Fin n → ℝ) :
    ∃ μ : ℝ, Finset.univ.fold max (⊥ : EReal) (fun j => if M j then (σ j : EReal) else ⊥) = μ := by
  obtain ⟨j₀, h₀⟩ := hM
  have hb : Finset.univ.fold max (⊥ : EReal) (fun j => if M j then (σ j : EReal) else ⊥) ≠ ⊥ := by
    have : (σ j₀ : EReal) ≤ Finset.univ.fold max (⊥ : EReal) (fun j => if M j then (σ j : EReal) else ⊥) := by
      rw [Finset.le_fold_max]
      exact .inr ⟨j₀, Finset.mem_univ _, by rw [if_pos h₀]⟩
    intro h
    rw [h] at this
    exact EReal.coe_ne_bot _ (le_bot_iff.1 this)
  have ht : Finset.univ.fold max (⊥ : EReal) (fun j => if M j then (σ j : EReal) else ⊥) < ⊤ := by
    rw [Finset.fold_max_lt]
    refine ⟨bot_lt_top, fun j _ => ?_⟩
    split
    · exact EReal.coe_lt_top _
    · exact bot_lt_top
  exact ⟨_, (EReal.coe_toReal ht.ne hb).symm⟩

/-- One row: the weighted values of unshifted weights divided by the sum of the weights, against the values weighted by
    the softmax of the scores. Masked scores are −∞ in the softmax and left out of the other sums. -/
theorem row_eq {n : ℕ} (M : Fin n → Prop) [DecidablePred M] (hM : ∃ j, M j) (σ : Fin n → ℝ) (v : Fin n → EReal) :
    Ideal.div (∑ j, if M j then Ideal.exp (σ j) * v j else 0) (∑ j, if M j then Ideal.exp (σ j) else 0)
      = ∑ j, v j * Ideal.div
          (Ideal.exp ((if M j then (σ j : EReal) else ⊥) - Finset.univ.fold max (⊥ : EReal) (fun j => if M j then (σ j : EReal) else ⊥)))
          (∑ j', Ideal.exp ((if M j' then (σ j' : EReal) else ⊥) - Finset.univ.fold max (⊥ : EReal) (fun j => if M j then (σ j : EReal) else ⊥))) := by
  obtain ⟨μ, hμ⟩ := fold_max_real M hM σ
  rw [hμ]
  -- the weights, as real numbers
  let w : Fin n → ℝ := fun j => if M j then Real.exp (σ j) else 0
  have hw : ∀ j, 0 ≤ w j := fun j => by
    dsimp only [w]; split
    · exact (Real.exp_pos _).le
    · exact le_rfl
  have hD : 0 < ∑ j, w j := by
    obtain ⟨j₀, h₀⟩ := hM
    refine Finset.sum_pos' (fun j _ => hw j) ⟨j₀, Finset.mem_univ _, ?_⟩
    dsimp only [w]; rw [if_pos h₀]; exact Real.exp_pos _
  have hshift : ∀ j, Ideal.exp ((if M j then (σ j : EReal) else ⊥) - (μ : EReal)) = ((Real.exp (-μ) * w j : ℝ) : EReal) := fun j => by
    dsimp only [w]; split
    · rw [← EReal.coe_sub, Ideal.exp_coe, ← Real.exp_add]; congr 2; ring
    · rw [EReal.bot_sub]; simp
  have hnum : ∀ j, (if M j then Ideal.exp (σ j) * v j else 0) = (w j : EReal) * v j := fun j => by
    dsimp only [w]; split
    · rw [Ideal.exp_coe]
    · simp
  have hden : ∀ j, (if M j then Ideal.exp (σ j) else 0) = (w j : EReal) := fun j => by
    dsimp only [w]; split
    · rw [Ideal.exp_coe]
    · simp
  simp only [hshift, hnum, hden]
  rw [← coe_sum, ← coe_sum, ← Finset.mul_sum, Ideal.div_coe hD.ne']
  have hE : Real.exp (-μ) * ∑ j, w j ≠ 0 := mul_ne_zero (Real.exp_pos _).ne' hD.ne'
  rw [mul_comm, mul_sum_of_nonneg _ _ (by positivity)]
  refine Finset.sum_congr rfl fun j _ => ?_
  rw [Ideal.div_coe hE, ← EReal.coe_mul, ← mul_assoc, ← EReal.coe_mul, mul_comm (v j)]
  congr 2
  have := (Real.exp_pos (-μ)).ne'
  field_simp

end Cert.Softmax

end
-- ==== Proof.RefMask.lean ====
/-
The reference's mask: entry `(i, j)` is set exactly where query row `i` attends to key row `j`. The two blocks being equal
makes their residues equal, so the first alternative adds nothing.
-/
module

public import proofs.«01_k».proof.Proof.Attention
public import proofs.«01_k».proof.Proof.Gen.ReferenceIdeal

@[expose] public section

noncomputable section

namespace Cert.RefValue

open Idealize.ShloMosaic Cert.ReferenceIdeal Cert.ReferenceIdeal.Facts₀ Cert.ReferenceIdeal.Facts Cert.Attention

variable [Cert.ReferenceIdeal.Facts]

/-- The block of 64 rows in which each query row lies. -/
def qBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The block in which each key row lies. -/
def kBlk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The divisor of the remainders, four. -/
def four : IVec S_ 32 :=
  select (cmpi .eq (id (constantI S_ 32 4#32)) (constantI S_ 32 0#32)) (constantI S_ 32 1#32) (id (constantI S_ 32 4#32))

/-- The remainder by four of a column. -/
def resCol (a : IVec S1024x1 32) : IVec S1024x1 32 :=
  select (andi (cmpi .ne (cmpi .slt (Host.remsi a (broadcastInDim S1024x1 ![] bcast_S_S1024x1 four)) (broadcastInDim S1024x1 ![] bcast_S_S1024x1 (constantI S_ 32 0#32)))
        (broadcastInDim S1024x1 ![] bcast_S_S1024x1 (cmpi .slt four (constantI S_ 32 0#32))))
      (cmpi .ne (Host.remsi a (broadcastInDim S1024x1 ![] bcast_S_S1024x1 four)) (broadcastInDim S1024x1 ![] bcast_S_S1024x1 (constantI S_ 32 0#32))))
    (addi (Host.remsi a (broadcastInDim S1024x1 ![] bcast_S_S1024x1 four)) (broadcastInDim S1024x1 ![] bcast_S_S1024x1 four))
    (Host.remsi a (broadcastInDim S1024x1 ![] bcast_S_S1024x1 four))

/-- The remainder by four of a row. -/
def resRow (a : IVec S1x4096 32) : IVec S1x4096 32 :=
  select (andi (cmpi .ne (cmpi .slt (Host.remsi a (broadcastInDim S1x4096 ![] bcast_S_S1x4096 four)) (broadcastInDim S1x4096 ![] bcast_S_S1x4096 (constantI S_ 32 0#32)))
        (broadcastInDim S1x4096 ![] bcast_S_S1x4096 (cmpi .slt four (constantI S_ 32 0#32))))
      (cmpi .ne (Host.remsi a (broadcastInDim S1x4096 ![] bcast_S_S1x4096 four)) (broadcastInDim S1x4096 ![] bcast_S_S1x4096 (constantI S_ 32 0#32))))
    (addi (Host.remsi a (broadcastInDim S1x4096 ![] bcast_S_S1x4096 four)) (broadcastInDim S1x4096 ![] bcast_S_S1x4096 four))
    (Host.remsi a (broadcastInDim S1x4096 ![] bcast_S_S1x4096 four))

/-- The query blocks as a column, the key blocks as a row. -/
def qCol : IVec S1024x1 32 := broadcastInDim S1024x1 ![0] bcast_S1024_S1024x1_0 qBlk
def kRow : IVec S1x4096 32 := broadcastInDim S1x4096 ![1] bcast_S4096_S1x4096_1 kBlk

/-- The mask. -/
def mask : IVec S1024x4096 1 :=
  ori (cmpi .eq (broadcastInDim S1024x4096 ![0, 1] bcast_S1024x1_S1024x4096_0_1 qCol) (broadcastInDim S1024x4096 ![0, 1] bcast_S1x4096_S1024x4096_0_1 kRow))
    (cmpi .eq (broadcastInDim S1024x4096 ![0, 1] bcast_S1x4096_S1024x4096_0_1 (resRow kRow)) (broadcastInDim S1024x4096 ![0, 1] bcast_S1024x1_S1024x4096_0_1 (resCol qCol)))

/-! ## The mask at an index -/

/-- The block of a row number, as the words compute it. -/
def blkWord (w : BitVec 32) : BitVec 32 :=
  Scalar.select (IntOp.andi (IntOp.cmpi .ne (if w = 0 then 0 else if w.msb = true then -1 else 1) (1 : BitVec 32))
      (IntOp.cmpi .ne (IntOp.remsi .host w 64#32) 0#32))
    (IntOp.subi (IntOp.divsi .host w 64#32) 1#32) (IntOp.divsi .host w 64#32)

/-- The remainder by four, as the words compute it. -/
def resWord (w : BitVec 32) : BitVec 32 :=
  Scalar.select (IntOp.andi (IntOp.cmpi .ne (IntOp.cmpi .slt (IntOp.remsi .host w 4#32) 0#32) 0#1)
      (IntOp.cmpi .ne (IntOp.remsi .host w 4#32) 0#32))
    (IntOp.addi (IntOp.remsi .host w 4#32) 4#32) (IntOp.remsi .host w 4#32)

theorem blkWord_eq : ∀ j : Fin 4096, blkWord (BitVec.ofNat 32 j.val) = BitVec.ofNat 32 (j.val / 64) := by decide +kernel

theorem resWord_eq : ∀ b : Fin 64, resWord (BitVec.ofNat 32 b.val) = BitVec.ofNat 32 (b.val % 4) := by decide +kernel

theorem mask_word : ∀ (a : Fin 16) (b : Fin 64),
    IntOp.ori (IntOp.cmpi .eq (BitVec.ofNat 32 a.val) (BitVec.ofNat 32 b.val))
        (IntOp.cmpi .eq (BitVec.ofNat 32 (b.val % 4)) (BitVec.ofNat 32 (a.val % 4)))
      = if b.val % 4 = a.val % 4 then 1#1 else 0#1 := by decide +kernel

theorem kBlk_apply (j : Fin 4096) : kBlk (ix1 j) = BitVec.ofNat 32 (j.val / 64) := by
  rw [← blkWord_eq]
  pointwise [kBlk]
  rfl

theorem qBlk_apply (i : Fin 1024) : qBlk (ix1 i) = BitVec.ofNat 32 (i.val / 64) := by
  have h := blkWord_eq ⟨i.val, by omega⟩
  dsimp only at h
  rw [← h]
  pointwise [qBlk]
  rfl

theorem resRow_apply (a : IVec S1x4096 32) (j : Fin 4096) : resRow a (ix2 0 j) = resWord (a (ix2 0 j)) := by
  pointwise [resRow, four]
  rfl

theorem resCol_apply (a : IVec S1024x1 32) (i : Fin 1024) : resCol a (ix2 i 0) = resWord (a (ix2 i 0)) := by
  pointwise [resCol, four]
  rfl

theorem kRow_apply (j : Fin 4096) : kRow (ix2 0 j) = BitVec.ofNat 32 (j.val / 64) := by
  rw [← kBlk_apply]
  pointwise [kRow]

theorem qCol_apply (i : Fin 1024) : qCol (ix2 i 0) = BitVec.ofNat 32 (i.val / 64) := by
  rw [← qBlk_apply]
  pointwise [qCol]

/-- The mask is set where the query row attends to the key row. -/
theorem mask_apply (i : Fin 1024) (j : Fin 4096) : mask (ix2 i j) = if Attends i j then 1#1 else 0#1 := by
  have h : mask (ix2 i j) = IntOp.ori (IntOp.cmpi .eq (qCol (ix2 i 0)) (kRow (ix2 0 j)))
      (IntOp.cmpi .eq (resRow kRow (ix2 0 j)) (resCol qCol (ix2 i 0))) := by pointwise [mask]
  rw [h, resRow_apply, resCol_apply, kRow_apply, qCol_apply]
  have hj := resWord_eq ⟨j.val / 64, by omega⟩
  have hi := resWord_eq ⟨i.val / 64, by omega⟩
  dsimp only at hj hi
  rw [hj, hi]
  exact mask_word ⟨i.val / 64, by omega⟩ ⟨j.val / 64, by omega⟩

end Cert.RefValue

end
-- ==== Proof.RefValue.lean ====
/-
The reference's value over the extended reals: its composed term, cut into named parts, read at an index, and brought to
the attention of Attention.lean for real scores.
-/
module

public import proofs.«01_k».proof.Proof.Softmax
public import proofs.«01_k».proof.Proof.RefMask
public import proofs.«01_k».proof.Proof.Gen.ReferenceIdeal.Run
public import Idealize.ShloMosaic.Lib.Routing.OpsOrder

@[expose] public section

noncomputable section

namespace Cert.RefValue

open Idealize.ShloMosaic Idealize.ShloMosaic.TcCoe Cert.ReferenceIdeal Cert.ReferenceIdeal.Gen Cert.Attention

variable {F : FTy → Type} [FloatOps F]

/-! ## The parts of the reference's term -/

/-- The queries by head. -/
def queries (x wq : FVec F S1024x1024 .f32) : FVec F S1x1024x8x128 .f32 :=
  shapeCast _ (Host.dotGeneral dot_S1x1024x1024_S1024x1024_S1x1024x1024_2_0_01_1_n_n none
    (shapeCast _ x shapeCasts_S1024x1024_S1x1024x1024 : FVec F S1x1024x1024 .f32) wq : FVec F S1x1024x1024 .f32) shapeCasts_S1x1024x1024_S1x1024x8x128

/-- The scaled scores. -/
def scores (x wq : FVec F S1024x1024 .f32) (k : FVec F S4096x1024 .f32) : FVec F S1x8x1024x4096 .f32 :=
  mulf (Host.dotGeneral dot_S1x1024x8x128_S1x4096x8x128_S1x8x1024x4096_3_3_1_1_02_02 none (queries x wq)
      (shapeCast _ k shapeCasts_S4096x1024_S1x4096x8x128 : FVec F S1x4096x8x128 .f32))
    (broadcastInDim S1x8x1024x4096 ![] bcast_S_S1x8x1024x4096 (constant S_ .f32 0x3DB504F3#32))

/-- The scores with −∞ where a mask is not set. -/
def masked (mask : IVec S1024x4096 1) (s : FVec F S1x8x1024x4096 .f32) : FVec F S1x8x1024x4096 .f32 :=
  select (broadcastInDim S1x8x1024x4096 ![0, 1, 2, 3] bcast_S1x1x1024x4096_S1x8x1024x4096_0_1_2_3
      (broadcastInDim S1x1x1024x4096 ![2, 3] bcast_S1024x4096_S1x1x1024x4096_2_3 mask)) s
    (broadcastInDim S1x8x1024x4096 ![] bcast_S_S1x8x1024x4096 (id (constant S_ .f32 0xFF800000#32)))

/-- The exponentials of the scores less their maximum in each row. -/
def weights (s : FVec F S1x8x1024x4096 .f32) : FVec F S1x8x1024x4096 .f32 :=
  Host.exp (subf s (broadcastInDim S1x8x1024x4096 ![0, 1, 2, 3] bcast_S1x8x1024x1_S1x8x1024x4096_0_1_2_3
    (broadcastInDim S1x8x1024x1 ![0, 1, 2] bcast_S1x8x1024_S1x8x1024x1_0_1_2
      (Host.reduce FloatOps.maximumf s (constant S_ .f32 0xFF800000#32) reducesTo_S1x8x1024x4096_S1x8x1024_d3 h_S_))))

/-- Which rows have an entry of a mask set. -/
def keep (mask : IVec S1024x4096 1) : IVec S1x1x1024x1 1 :=
  broadcastInDim S1x1x1024x1 ![2] bcast_S1024_S1x1x1024x1_2 (Host.reduce IntOp.ori mask (constantI S_ 1 0#1) reducesTo_S1024x4096_S1024_d1 h_S_)

/-- The sums of the weights in each row, 1 in a row that is not kept. -/
def totals (kp : IVec S1x1x1024x1 1) (w : FVec F S1x8x1024x4096 .f32) : FVec F S1x8x1024x1 .f32 :=
  select (broadcastInDim S1x8x1024x1 ![0, 1, 2, 3] bcast_S1x1x1024x1_S1x8x1024x1_0_1_2_3 kp)
    (broadcastInDim S1x8x1024x1 ![0, 1, 2] bcast_S1x8x1024_S1x8x1024x1_0_1_2
      (Host.reduceAdd w (constant S_ .f32 0x00000000#32) reducesTo_S1x8x1024x4096_S1x8x1024_d3 h_S_))
    (broadcastInDim S1x8x1024x1 ![] bcast_S_S1x8x1024x1 (id (constant S_ .f32 0x3F800000#32)))

/-- The weights divided by their row's total, 0 in a row that is not kept. -/
def normalised (kp : IVec S1x1x1024x1 1) (w : FVec F S1x8x1024x4096 .f32) (t : FVec F S1x8x1024x1 .f32) : FVec F S1x8x1024x4096 .f32 :=
  select (broadcastInDim S1x8x1024x4096 ![0, 1, 2, 3] bcast_S1x1x1024x1_S1x8x1024x4096_0_1_2_3 kp)
    (Host.divf w (broadcastInDim S1x8x1024x4096 ![0, 1, 2, 3] bcast_S1x8x1024x1_S1x8x1024x4096_0_1_2_3 t))
    (broadcastInDim S1x8x1024x4096 ![] bcast_S_S1x8x1024x4096 (id (constant S_ .f32 0x00000000#32)))

/-- The weights of the whole reference, for an array of masked scores. -/
def attention (kp : IVec S1x1x1024x1 1) (s : FVec F S1x8x1024x4096 .f32) : FVec F S1x8x1024x4096 .f32 :=
  normalised kp (weights s) (totals kp (weights s))

/-- The context: the values weighted. -/
def context (v : FVec F S4096x1024 .f32) (w : FVec F S1x8x1024x4096 .f32) : FVec F S1x1024x1024 .f32 :=
  shapeCast _ (transpose S1x1024x8x128 [0, 3, 1, 2] (Host.dotGeneral dot_S1x4096x8x128_S1x8x1024x4096_S1x8x128x1024_1_3_3_2_02_01 none
    (shapeCast _ v shapeCasts_S4096x1024_S1x4096x8x128 : FVec F S1x4096x8x128 .f32) w : FVec F S1x8x128x1024 .f32)
    transposes_S1x8x128x1024_S1x1024x8x128_0_3_1_2 : FVec F S1x1024x8x128 .f32) shapeCasts_S1x1024x8x128_S1x1024x1024

/-- The whole reference. -/
def refOut (x wq : FVec F S1024x1024 .f32) (k v : FVec F S4096x1024 .f32) (wo : FVec F S1024x1024 .f32) : FVec F S1024x1024 .f32 :=
  shapeCast _ (Host.dotGeneral dot_S1x1024x1024_S1024x1024_S1x1024x1024_2_0_01_1_n_n none
    (context v (attention (keep mask) (masked mask (scores x wq k)))) wo : FVec F S1x1024x1024 .f32) shapeCasts_S1x1024x1024_S1024x1024

set_option maxRecDepth 8192 in
theorem res_eq (m : (ℓ : Loc nD τ sig) → Buf (Elt F) ℓ) (c : Dev nD) :
    Cert.ReferenceIdeal.Value.res_out0 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## The parts at an index -/

theorem queries_apply (x wq : FVec Ideal S1024x1024 .f32) (i : Fin 1024) (h : Fin 8) (d : Fin 128) :
    queries x wq (ix4 0 i h d) = query (fun a b => x (ix2 a b)) (fun a b => wq (ix2 a b)) i (col h d) := by
  have e : (⟨h.val * 128 + d.val, by omega⟩ : Fin 1024) = col h d := Fin.ext (by dsimp only; omega)
  pointwise [queries, query]
  rw [e]

theorem scores_apply (x wq : FVec Ideal S1024x1024 .f32) (k : FVec Ideal S4096x1024 .f32) (h : Fin 8) (i : Fin 1024) (j : Fin 4096) :
    scores x wq k (ix4 0 h i j) = score (fun a b => x (ix2 a b)) (fun a b => wq (ix2 a b)) (fun a b => k (ix2 a b)) i h j := by
  have e : ∀ d : Fin 128, (⟨h.val * 128 + d.val, by omega⟩ : Fin 1024) = col h d := fun d => Fin.ext (by dsimp only; omega)
  pointwise [scores, score, scale]
  simp only [queries_apply, e]

/-- The word of −∞. -/
theorem bot_word : Ideal.ofBits .f32 0xFF800000#32 = (⊥ : EReal) := by
  simp [Ideal.ofBits, Ideal.ieee]

theorem masked_apply (mask : IVec S1024x4096 1) (s : FVec Ideal S1x8x1024x4096 .f32) (h : Fin 8) (i : Fin 1024) (j : Fin 4096) :
    masked mask s (ix4 0 h i j) = if mask (ix2 i j) = 1#1 then s (ix4 0 h i j) else (⊥ : EReal) := by
  rw [← bot_word]
  pointwise [masked]
  rfl

theorem weights_apply (s : FVec Ideal S1x8x1024x4096 .f32) (h : Fin 8) (i : Fin 1024) (j : Fin 4096) :
    weights s (ix4 0 h i j) = Ideal.exp ((s (ix4 0 h i j) : EReal) - Finset.univ.fold max (⊥ : EReal) fun l : Fin 4096 => s (ix4 0 h i l)) := by
  rw [← bot_word]
  pointwise [weights]

theorem keep_fold (mask : IVec S1024x4096 1) (i : Fin 1024) :
    keep mask (ix4 0 0 i 0) = Finset.univ.fold IntOp.ori 0#1 fun l : Fin 4096 => mask (ix2 i l) := by
  pointwise [keep]

theorem totals_apply (kp : IVec S1x1x1024x1 1) (w : FVec Ideal S1x8x1024x4096 .f32) (h : Fin 8) (i : Fin 1024) (hk : kp (ix4 0 0 i 0) = 1#1) :
    totals kp w (ix4 0 h i 0) = ∑ l : Fin 4096, (w (ix4 0 h i l) : EReal) := by
  pointwise [totals]
  rw [hk]
  rfl

theorem normalised_apply (kp : IVec S1x1x1024x1 1) (w : FVec Ideal S1x8x1024x4096 .f32) (t : FVec Ideal S1x8x1024x1 .f32)
    (h : Fin 8) (i : Fin 1024) (j : Fin 4096) (hk : kp (ix4 0 0 i 0) = 1#1) :
    normalised kp w t (ix4 0 h i j) = Ideal.div (w (ix4 0 h i j)) (t (ix4 0 h i 0)) := by
  pointwise [normalised]
  rw [hk]
  rfl

theorem context_apply (v : FVec Ideal S4096x1024 .f32) (w : FVec Ideal S1x8x1024x4096 .f32) (i e : Fin 1024) :
    context v w (ix3 0 i e) = ∑ j : Fin 4096, (v (ix2 j e) * w (ix4 0 (head e) i j) : EReal) := by
  pointwise [context]

theorem project_apply (a : FVec Ideal S1x1024x1024 .f32) (wo : FVec Ideal S1024x1024 .f32) (i n : Fin 1024) :
    (shapeCast _ (Host.dotGeneral dot_S1x1024x1024_S1024x1024_S1x1024x1024_2_0_01_1_n_n none a wo : FVec Ideal S1x1024x1024 .f32)
      shapeCasts_S1x1024x1024_S1024x1024 : FVec Ideal S1024x1024 .f32) (ix2 i n) = ∑ e : Fin 1024, (a (ix3 0 i e) * wo (ix2 e n) : EReal) := by
  pointwise []

/-! ## The whole reference -/

/-- Every query row attends to the key row of its own number. -/
theorem attends_self (i : Fin 1024) : Attends i ⟨i.val, by omega⟩ := rfl

theorem keep_apply (i : Fin 1024) : keep mask (ix4 0 0 i 0) = 1#1 := by
  rw [keep_fold, Routing.fold_ori]
  exact ⟨⟨i.val, by omega⟩, Finset.mem_univ _, by rw [mask_apply, if_pos (attends_self i)]⟩

/-- A number that is real. -/
abbrev IsReal (a : EReal) : Prop := ∃ r : ℝ, a = r

theorem isReal_mul {a b : EReal} : IsReal a → IsReal b → IsReal (a * b)
  | ⟨r, hr⟩, ⟨t, ht⟩ => ⟨r * t, by rw [hr, ht, EReal.coe_mul]⟩

theorem isReal_sum {ι : Type*} (s : Finset ι) (f : ι → EReal) (hf : ∀ i, IsReal (f i)) : IsReal (∑ i ∈ s, f i) := by
  choose g hg using hf
  exact ⟨∑ i ∈ s, g i, by rw [Softmax.coe_sum]; exact Finset.sum_congr rfl fun i _ => hg i⟩

theorem isReal_scale : IsReal scale := by
  refine ⟨scale.toReal, (EReal.coe_toReal ?_ ?_).symm⟩ <;> simp only [scale, Ideal.ofBits, Ideal.ieee] <;> simp <;> rw [← EReal.coe_mul]
  · exact EReal.coe_ne_top _
  · exact EReal.coe_ne_bot _

/-- With real inputs every score is real. -/
theorem isReal_score (x wq : Mat 1024) (k : Mat 4096) (hx : ∀ a b, IsReal (x a b)) (hwq : ∀ a b, IsReal (wq a b))
    (hk : ∀ a b, IsReal (k a b)) (i : Fin 1024) (h : Fin 8) (j : Fin 4096) : IsReal (score x wq k i h j) :=
  isReal_mul (isReal_sum _ _ fun _ => isReal_mul (isReal_sum _ _ fun _ => isReal_mul (hx _ _) (hwq _ _)) (hk _ _)) isReal_scale

/-- The reference's weights of a row, for real scores. -/
theorem attention_apply (s : FVec Ideal S1x8x1024x4096 .f32) (h : Fin 8) (i : Fin 1024) (σ : Fin 4096 → ℝ)
    (hσ : ∀ j, s (ix4 0 h i j) = (σ j : EReal)) (j : Fin 4096) :
    attention (keep mask) (masked mask s) (ix4 0 h i j)
      = Ideal.div
          (Ideal.exp ((if Attends i j then (σ j : EReal) else ⊥) - Finset.univ.fold max (⊥ : EReal) (fun j => if Attends i j then (σ j : EReal) else ⊥)))
          (∑ j', Ideal.exp ((if Attends i j' then (σ j' : EReal) else ⊥) - Finset.univ.fold max (⊥ : EReal) (fun j => if Attends i j then (σ j : EReal) else ⊥))) := by
  have hm : ∀ l, masked mask s (ix4 0 h i l) = if Attends i l then (σ l : EReal) else ⊥ := fun l => by
    rw [masked_apply, mask_apply, hσ]
    by_cases ha : Attends i l
    · rw [if_pos ha, if_pos ha, if_pos rfl]
    · rw [if_neg ha, if_neg ha, if_neg (by decide)]
  unfold attention
  rw [normalised_apply _ _ _ _ _ _ (keep_apply i), totals_apply _ _ _ _ (keep_apply i)]
  simp only [weights_apply, hm]

/-- The reference is the attention of Attention.lean where x, Wq and K are real. -/
theorem refOut_apply (x wq : FVec Ideal S1024x1024 .f32) (k v : FVec Ideal S4096x1024 .f32) (wo : FVec Ideal S1024x1024 .f32)
    (hx : ∀ a b, IsReal (x (ix2 a b))) (hwq : ∀ a b, IsReal (wq (ix2 a b))) (hk : ∀ a b, IsReal (k (ix2 a b))) (i n : Fin 1024) :
    refOut x wq k v wo (ix2 i n)
      = out (fun a b => x (ix2 a b)) (fun a b => wq (ix2 a b)) (fun a b => k (ix2 a b)) (fun a b => v (ix2 a b)) (fun a b => wo (ix2 a b)) i n := by
  unfold refOut out
  rw [project_apply]
  refine Finset.sum_congr rfl fun e _ => congrArg (· * (wo (ix2 e n) : EReal)) ?_
  rw [context_apply]
  choose σ hσ using isReal_score (fun a b => x (ix2 a b)) (fun a b => wq (ix2 a b)) (fun a b => k (ix2 a b)) hx hwq hk i (head e)
  have hs : ∀ j, scores x wq k (ix4 0 (head e) i j) = (σ j : EReal) := fun j => (scores_apply x wq k (head e) i j).trans (hσ j)
  simp only [attention_apply (scores x wq k) (head e) i σ hs]
  unfold num den
  simp only [hσ]
  exact (Softmax.row_eq (fun j => Attends i j) ⟨_, attends_self i⟩ σ fun j => v (ix2 j e)).symm

end Cert.RefValue

end
-- ==== Proof.lean ====
/-
The proof of `Cert.Claim`. The kernel's run is in Proof/Kernel/ (at the machine's floats) and Proof/KernelIdeal/ (at the
extended reals); the reference's run in Proof/Gen/ReferenceIdeal/Run.lean. Attention.lean states the value both compute; KernelValue.lean and
RefValue.lean prove that each computes it. This file puts them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Finite
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- Every run of the kernel ends, with its arguments unchanged and every counter at zero. -/
theorem frame_kernel : Cert.quiescent_Kernel := fun m ρ _ =>
  (θ_run Cert.Kernel.defs _ _).mono (fun _ h => ⟨h.1, h.2.1⟩) (Cert.KernelProof.run_value (F := Bits) m ρ)

/-- The same over the extended reals. -/
theorem frame_kernelIdeal : Cert.quiescent_KernelIdeal := fun m ρ _ =>
  (θ_run Cert.KernelIdeal.defs _ _).mono (fun _ h => ⟨h.1, h.2.1⟩) (Cert.KernelIdealProof.run_value (F := Ideal) m ρ)

/-- Every run of the reference ends, with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Row i of device c's block of an array cut into four along its rows is row 1024 c + i of the whole. -/
theorem block_apply (c : Fin 4) (v : FVec Ideal ⟨2, ![4096, 1024]⟩ .f32) (i e : Fin 1024) :
    Layout.block ⟨2, ![1024, 1024]⟩ ⟨2, ![4096, 1024]⟩ 0 4 c v (by decide) (ix2 i e) = v (ix2 (Attention.wholeRow c i) e) := by
  refine congrArg v (funext fun a => Fin.ext ?_)
  match a with
  | ⟨0, _⟩ => exact congrArg (· + i.val) (Nat.mul_comm c.val 1024)
  | ⟨1, _⟩ => rfl

/-- Every row of a cut array is a row of some device's block. -/
theorem row_block (a : Fin 4096) : ∃ (c : Fin 4) (i : Fin 1024), a = Attention.wholeRow c i :=
  ⟨⟨a.val / 1024, by omega⟩, ⟨a.val % 1024, by omega⟩, Fin.ext (by change a.val = 1024 * (a.val / 1024) + a.val % 1024; omega)⟩

/-- The kernel's value on inputs cut from whole arrays is the reference's value on the whole arrays. -/
theorem value_eq (I : Cert.KernelIdealProof.Inp Ideal) (x wq wo : FVec Ideal ⟨2, ![1024, 1024]⟩ .f32) (k v : FVec Ideal ⟨2, ![4096, 1024]⟩ .f32)
    (hx : ∀ c, I.x c = x) (hwq : ∀ c, I.wq c = wq)
    (hk : ∀ c : Fin 4, I.k c = Layout.block ⟨2, ![1024, 1024]⟩ ⟨2, ![4096, 1024]⟩ 0 4 c k (by decide))
    (hv : ∀ c : Fin 4, I.v c = Layout.block ⟨2, ![1024, 1024]⟩ ⟨2, ![4096, 1024]⟩ 0 4 c v (by decide)) (hwo : ∀ c, I.wo c = wo)
    (rx : ∀ c a b, ∃ r : ℝ, (I.x c (ix2 a b) : EReal) = r) (rwq : ∀ c a b, ∃ r : ℝ, (I.wq c (ix2 a b) : EReal) = r)
    (rk : ∀ c a b, ∃ r : ℝ, (I.k c (ix2 a b) : EReal) = r) :
    Cert.KernelIdealProof.outF I = Cert.RefValue.refOut x wq k v wo := by
  funext p
  obtain ⟨i, n, rfl⟩ : ∃ i n : Fin 1024, p = ix2 i n := ⟨p 0, p 1, eq_ix2 p⟩
  refine (KernelValue.outF_apply I (fun a b => x (ix2 a b)) (fun a b => wq (ix2 a b)) (fun a b => wo (ix2 a b)) (fun a b => k (ix2 a b))
    (fun a b => v (ix2 a b)) (fun c a b => congrFun (hx c) _) (fun c a b => congrFun (hwq c) _)
    (fun c a b => congrFun (hwo c) _)
    (fun c a b => (congrFun (hk c) _).trans (block_apply c k a b)) (fun c a b => (congrFun (hv c) _).trans (block_apply c v a b)) i n).trans ?_
  refine (RefValue.refOut_apply x wq k v wo (fun a b => ?_) (fun a b => ?_) (fun a b => ?_) i n).symm
  · exact hx 0 ▸ rx 0 a b
  · exact hwq 0 ▸ rwq 0 a b
  · obtain ⟨c, l, rfl⟩ := row_block a
    obtain ⟨r, hr⟩ := rk c l b
    exact ⟨r, ((congrFun (hk c) _).trans (block_apply c k l b)).symm.trans hr⟩

/-- Over the extended reals the kernel's result, on every device, is the reference's, where x, Wq and K are finite. -/
theorem algebraic : Cert.algebraic_KernelIdeal_ReferenceIdeal_pre_finite_KernelIdeal := by
  intro m g m' g' hpre hargs
  have hreal := fun c => Finite.fn_real _ _ _ _ _ (hpre c)
  refine ⟨Cert.ReferenceIdeal.Value.res_out0 (F := Ideal) m' 0, ?_, ?_⟩
  · refine (θ_run Cert.KernelIdeal.defs _ _).mono (fun r h c => ⟨(h.2.2 c).trans ?_, h.1 c⟩)
      (Cert.KernelIdealProof.run_value (F := Ideal) m g)
    rw [RefValue.res_eq]
    exact value_eq (Cert.KernelIdealProof.inp m) _ _ _ _ _ (fun c => (hargs c).1) (fun c => (hargs c).2.1) (fun c => (hargs c).2.2.1)
      (fun c => (hargs c).2.2.2.1) (fun c => (hargs c).2.2.2.2) (fun c => (hreal c).1) (fun c => (hreal c).2.1) (fun c => (hreal c).2.2)
  · exact (θ_run Cert.ReferenceIdeal.defs _ _).mono (fun r h => h 0) (Cert.ReferenceIdeal.Value.run (F := Ideal) m' g')

instance factsPreReference : Cert.Pre_finite_ReferenceIdeal.Facts where
  bcast_S_S1024x1024 := by decide
  reducesTo_S1024x1024_S_d0_1 := by decide
  h_S_ := by decide
  bcast_S_S4096x1024 := by decide
  reducesTo_S4096x1024_S_d0_1 := by decide

theorem claim : Cert.Claim := ⟨Cert.Kernel.Gen.facts, Cert.KernelIdeal.Gen.facts, Cert.ReferenceIdeal.Gen.facts,
  Cert.Finite.facts, factsPreReference,
  frame_kernel, frame_kernelIdeal, fun m g _ => frame_kernelIdeal m g trivial, frame_reference,
  fun m g _ => frame_reference m g trivial, trivial, algebraic⟩

end Cert.Proof

end
